-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x3A2AAAAB#32 ((1 / 1536 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x1536 : Shape := ⟨3, ![4, 512, 1536]⟩
abbrev S4x512x12 : Shape := ⟨3, ![4, 512, 12]⟩
abbrev S4x512 : Shape := ⟨2, ![4, 512]⟩
abbrev S1536 : Shape := ⟨1, ![1536]⟩
abbrev S1536x2048 : Shape := ⟨2, ![1536, 2048]⟩
abbrev S2048 : Shape := ⟨1, ![2048]⟩
abbrev S4x512x2048 : Shape := ⟨3, ![4, 512, 2048]⟩
abbrev S1x1536 : Shape := ⟨2, ![1, 1536]⟩
abbrev S1x2048 : Shape := ⟨2, ![1, 2048]⟩
abbrev S2048x1536 : Shape := ⟨2, ![2048, 1536]⟩
abbrev S2048x2048 : Shape := ⟨2, ![2048, 2048]⟩
abbrev S2x512x1536 : Shape := ⟨3, ![2, 512, 1536]⟩
abbrev S2x512x128 : Shape := ⟨3, ![2, 512, 128]⟩
abbrev S3x512x512 : Shape := ⟨3, ![3, 512, 512]⟩
abbrev S4x2 : Shape := ⟨2, ![4, 2]⟩
abbrev S2 : Shape := ⟨1, ![2]⟩
abbrev S4 : Shape := ⟨1, ![4]⟩
abbrev S3 : Shape := ⟨1, ![3]⟩
abbrev S12 : Shape := ⟨1, ![12]⟩
abbrev S1 : Shape := ⟨1, ![1]⟩
abbrev S_ : Shape := ⟨0, ![]⟩
abbrev S1x1 : Shape := ⟨2, ![1, 1]⟩
abbrev S512x512 : Shape := ⟨2, ![512, 512]⟩
abbrev S1x512x512 : Shape := ⟨3, ![1, 512, 512]⟩
abbrev S512x2048 : Shape := ⟨2, ![512, 2048]⟩
abbrev S512x1536 : Shape := ⟨2, ![512, 1536]⟩
abbrev S1x512x1536 : Shape := ⟨3, ![1, 512, 1536]⟩
abbrev S1x512x2048 : Shape := ⟨3, ![1, 512, 2048]⟩
abbrev S1x512 : Shape := ⟨2, ![1, 512]⟩
abbrev S1x128 : Shape := ⟨2, ![1, 128]⟩
abbrev S128x128 : Shape := ⟨2, ![128, 128]⟩
abbrev S1x128x128 : Shape := ⟨3, ![1, 128, 128]⟩
abbrev S1x128x12 : Shape := ⟨3, ![1, 128, 12]⟩
abbrev S128x12 : Shape := ⟨2, ![128, 12]⟩
abbrev S128x1 : Shape := ⟨2, ![128, 1]⟩
abbrev S1x16x1536 : Shape := ⟨3, ![1, 16, 1536]⟩
abbrev S16x1536 : Shape := ⟨2, ![16, 1536]⟩
abbrev S16 : Shape := ⟨1, ![16]⟩
abbrev S16x1 : Shape := ⟨2, ![16, 1]⟩
abbrev S1x16x1 : Shape := ⟨3, ![1, 16, 1]⟩
abbrev S2048x512 : Shape := ⟨2, ![2048, 512]⟩

abbrev nBuf : Space → Nat
  | .hbm => 12
  | .vmem => 15
  | .smem => 0
  | _ => 0

abbrev bufTy : (tb : Table) → Fin (tcTables nBuf tb) → BufTy
  | .hbm, ⟨0, _⟩ => ⟨S4x512x1536, .fp8e4m3⟩
  | .hbm, ⟨1, _⟩ => ⟨S4x512x12, .f32⟩
  | .hbm, ⟨2, _⟩ => ⟨S4x512, .f32⟩
  | .hbm, ⟨3, _⟩ => ⟨S1536, .f32⟩
  | .hbm, ⟨4, _⟩ => ⟨S1536x2048, .fp8e4m3⟩
  | .hbm, ⟨5, _⟩ => ⟨S2048, .f32⟩
  | .hbm, ⟨6, _⟩ => ⟨S4x512x2048, .bf16⟩
  | .hbm, ⟨7, _⟩ => ⟨S1x1536, .f32⟩
  | .hbm, ⟨8, _⟩ => ⟨S1x2048, .f32⟩
  | .hbm, ⟨9, _⟩ => ⟨S4x512x1536, .bf16⟩
  | .hbm, ⟨10, _⟩ => ⟨S1536x2048, .f32⟩
  | .hbm, ⟨11, _⟩ => ⟨S1x1536, .f32⟩
  | .local _ .vmem, ⟨0, _⟩ => ⟨S2048x1536, .fp8e4m3⟩
  | .local _ .vmem, ⟨1, _⟩ => ⟨S4x512x12, .f32⟩
  | .local _ .vmem, ⟨2, _⟩ => ⟨S4x512, .f32⟩
  | .local _ .vmem, ⟨3, _⟩ => ⟨S1x1536, .f32⟩
  | .local _ .vmem, ⟨4, _⟩ => ⟨S1536x2048, .fp8e4m3⟩
  | .local _ .vmem, ⟨5, _⟩ => ⟨S1x2048, .f32⟩
  | .local _ .vmem, ⟨6, _⟩ => ⟨S2048x2048, .bf16⟩
  | .local _ .vmem, ⟨7, _⟩ => ⟨S1536x2048, .bf16⟩
  | .local _ .vmem, ⟨8, _⟩ => ⟨S1536x2048, .bf16⟩
  | .local _ .vmem, ⟨9, _⟩ => ⟨S2x512x1536, .f32⟩
  | .local _ .vmem, ⟨10, _⟩ => ⟨S2x512x1536, .f32⟩
  | .local _ .vmem, ⟨11, _⟩ => ⟨S2x512x128, .f32⟩
  | .local _ .vmem, ⟨12, _⟩ => ⟨S2x512x1536, .bf16⟩
  | .local _ .vmem, ⟨13, _⟩ => ⟨S3x512x512, .f32⟩
  | .local _ .vmem, ⟨14, _⟩ => ⟨S1x1536, .f32⟩
  | _, _ => ⟨S4x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩

abbrev nD : Nat := 1
abbrev τ : Topo := Topo.v7x

variable {F : FTy → Type} [FloatOps F]

abbrev grid0 : Pipeline.Grid := .none
-- ==== KernelIdeal.lean ====
variable {F : FTy → Type} [FloatOps F] [Named F]
def κ : String → Option EReal := fun
  | "inv_d" => some ((1 / 1536 : ℝ) : EReal)
  | _ => none
-- ==== ReferenceIdeal.lean ====
abbrev S4x512x1536 : Shape := ⟨3, ![4, 512, 1536]⟩
abbrev S4x512x12 : Shape := ⟨3, ![4, 512, 12]⟩
abbrev S4x512 : Shape := ⟨2, ![4, 512]⟩
abbrev S1536 : Shape := ⟨1, ![1536]⟩
abbrev S1536x2048 : Shape := ⟨2, ![1536, 2048]⟩
abbrev S2048 : Shape := ⟨1, ![2048]⟩
abbrev S4x512x2048 : Shape := ⟨3, ![4, 512, 2048]⟩
abbrev S1x1536 : Shape := ⟨2, ![1, 1536]⟩
abbrev S1x2048 : Shape := ⟨2, ![1, 2048]⟩
abbrev S2048x1 : Shape := ⟨2, ![2048, 1]⟩
abbrev S2048x2048 : Shape := ⟨2, ![2048, 2048]⟩
abbrev S2048x12x128 : Shape := ⟨3, ![2048, 12, 128]⟩
abbrev S2048x12x1 : Shape := ⟨3, ![2048, 12, 1]⟩
abbrev S2048x1536 : Shape := ⟨2, ![2048, 1536]⟩

abbrev nBuf : Space → Nat
  | .hbm => 12
  | .vmem => 10
  | .smem => 0
  | _ => 0

abbrev bufTy : (tb : Table) → Fin (tcTables nBuf tb) → BufTy
  | .hbm, ⟨0, _⟩ => ⟨S4x512x1536, .fp8e4m3⟩
  | .hbm, ⟨1, _⟩ => ⟨S4x512x12, .f32⟩
  | .hbm, ⟨2, _⟩ => ⟨S4x512, .f32⟩
  | .hbm, ⟨3, _⟩ => ⟨S1536, .f32⟩
  | .hbm, ⟨4, _⟩ => ⟨S1536x2048, .fp8e4m3⟩
  | .hbm, ⟨5, _⟩ => ⟨S2048, .f32⟩
  | .hbm, ⟨6, _⟩ => ⟨S4x512x2048, .bf16⟩
  | .hbm, ⟨7, _⟩ => ⟨S1x1536, .f32⟩
  | .hbm, ⟨8, _⟩ => ⟨S1x2048, .f32⟩
  | .hbm, ⟨9, _⟩ => ⟨S4x512x1536, .bf16⟩
  | .hbm, ⟨10, _⟩ => ⟨S1536x2048, .f32⟩
  | .hbm, ⟨11, _⟩ => ⟨S1x1536, .f32⟩
  | .local _ .vmem, ⟨0, _⟩ => ⟨S4x512x1536, .fp8e4m3⟩
  | .local _ .vmem, ⟨1, _⟩ => ⟨S4x512x12, .f32⟩
  | .local _ .vmem, ⟨2, _⟩ => ⟨S4x512, .f32⟩
  | .local _ .vmem, ⟨3, _⟩ => ⟨S1x1536, .f32⟩
  | .local _ .vmem, ⟨4, _⟩ => ⟨S1536x2048, .fp8e4m3⟩
  | .local _ .vmem, ⟨5, _⟩ => ⟨S1x2048, .f32⟩
  | .local _ .vmem, ⟨6, _⟩ => ⟨S4x512x2048, .bf16⟩
  | .local _ .vmem, ⟨7, _⟩ => ⟨S4x512x1536, .bf16⟩
  | .local _ .vmem, ⟨8, _⟩ => ⟨S1536x2048, .f32⟩
  | .local _ .vmem, ⟨9, _⟩ => ⟨S1x1536, .f32⟩
  | _, _ => ⟨S4x512x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x512x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Prog.lean ====
/- The kernel's body as a short structured program: the copies, the dequantization of a weight tile, the
   contraction units, the normalization passes, each written once with its indices as parameters. -/
module

public import proofs.«01_k».proof.Proof.Gen.KernelIdeal

@[expose] public section

namespace Cert.Proof.Body

open Idealize.ShloMosaic Idealize.SL.Sem
open Cert.KernelIdeal Cert.KernelIdeal.Gen

variable (F : FTy → Type)

/-- A program of the kernel's core. -/
abbrev P (α : Type) := Prog (TpuEff nD τ sig (Elt F) Λ₀ .tc) α

variable {F}

/-! ## Loops -/

/-- `f i`, `f (i + 1)`, …, `k` of them, in turn. -/
def loop (N : ℕ) (f : (i : ℕ) → i < N → P F PUnit) : (k i : ℕ) → i + k ≤ N → P F PUnit
  | 0, _, _ => pure ⟨⟩
  | k + 1, i, h => f i (by omega) >>= fun _ => loop N f k (i + 1) (by omega)

/-- `f 0`, …, `f (N - 1)` in turn. -/
def forN (N : ℕ) (f : (i : ℕ) → i < N → P F PUnit) : P F PUnit := loop N f N 0 (by omega)

/-! ## Rectangles -/

theorem inb2 {n0 n1 s0 s1 a b : ℕ} (h0 : a + s0 ≤ n0) (h1 : b + s1 ≤ n1) :
    ∀ i, (![a, b] : Fin 2 → ℕ) i + (⟨2, ![s0, s1]⟩ : Shape).size i ≤ (⟨2, ![n0, n1]⟩ : Shape).size i := by
  intro i; fin_cases i
  · exact h0
  · exact h1

theorem inb1 {n0 s0 a : ℕ} (h0 : a + s0 ≤ n0) :
    ∀ i, (![a] : Fin 1 → ℕ) i + (⟨1, ![s0]⟩ : Shape).size i ≤ (⟨1, ![n0]⟩ : Shape).size i := by
  intro i; fin_cases i; exact h0

theorem inb3 {n0 n1 n2 s0 s1 s2 a b c : ℕ} (h0 : a + s0 ≤ n0) (h1 : b + s1 ≤ n1) (h2 : c + s2 ≤ n2) :
    ∀ i, (![a, b, c] : Fin 3 → ℕ) i + (⟨3, ![s0, s1, s2]⟩ : Shape).size i ≤ (⟨3, ![n0, n1, n2]⟩ : Shape).size i := by
  intro i; fin_cases i
  · exact h0
  · exact h1
  · exact h2

theorem packed2 {n0 n1 s0 s1 a b p : ℕ} (h) (ha : p ∣ a) (hs : p ∣ s0) :
    (Rect.unit (s := ⟨2, ![n0, n1]⟩) ![a, b] ![s0, s1] h).PackedRows p :=
  .inr ⟨le_rfl, rfl, .inl ⟨ha, hs⟩⟩

theorem packed3 {n0 n1 n2 s0 s1 s2 a b c p : ℕ} (h) (ha : p ∣ b) (hs : p ∣ s1) :
    (Rect.unit (s := ⟨3, ![n0, n1, n2]⟩) ![a, b, c] ![s0, s1, s2] h).PackedRows p :=
  .inr ⟨Nat.le_succ 2, rfl, .inl ⟨ha, hs⟩⟩

/-! ## The buffers -/

abbrev xH : Memref sig .tc .hbm S4x512x1536 .fp8e4m3 := Memref.whole main_arg0
abbrev xsH : Memref sig .tc .hbm S4x512x12 .f32 := Memref.whole main_arg1
abbrev rstdH : Memref sig .tc .hbm S4x512 .f32 := Memref.whole main_arg2
abbrev gammaH : Memref sig .tc .hbm S1x1536 .f32 := Memref.whole main_v0
abbrev wH : Memref sig .tc .hbm S1536x2048 .fp8e4m3 := Memref.whole main_arg4
abbrev wsH : Memref sig .tc .hbm S1x2048 .f32 := Memref.whole main_v1
abbrev dqH : Memref sig .tc .hbm S4x512x2048 .bf16 := Memref.whole main_arg6
abbrev dxH : Memref sig .tc .hbm S4x512x1536 .bf16 := Memref.whole main_v2_0
abbrev dwH : Memref sig .tc .hbm S1536x2048 .f32 := Memref.whole main_v2_1
abbrev dgH : Memref sig .tc .hbm S1x1536 .f32 := Memref.whole main_v2_2
abbrev xV : Memref sig .tc .vmem S2048x1536 .fp8e4m3 := Memref.whole cc0_scratch0
abbrev xsV : Memref sig .tc .vmem S4x512x12 .f32 := Memref.whole cc0_scratch1
abbrev rstdV : Memref sig .tc .vmem S4x512 .f32 := Memref.whole cc0_scratch2
abbrev gammaV : Memref sig .tc .vmem S1x1536 .f32 := Memref.whole cc0_scratch3
abbrev wV : Memref sig .tc .vmem S1536x2048 .fp8e4m3 := Memref.whole cc0_scratch4
abbrev wsV : Memref sig .tc .vmem S1x2048 .f32 := Memref.whole cc0_scratch5
abbrev dqV : Memref sig .tc .vmem S2048x2048 .bf16 := Memref.whole cc0_scratch6
abbrev wbV : Memref sig .tc .vmem S1536x2048 .bf16 := Memref.whole cc0_scratch7
abbrev xtV : Memref sig .tc .vmem S1536x2048 .bf16 := Memref.whole cc0_scratch8
abbrev nV : Memref sig .tc .vmem S2x512x1536 .f32 := Memref.whole cc0_scratch9
abbrev dxhV : Memref sig .tc .vmem S2x512x1536 .f32 := Memref.whole cc0_scratch10
abbrev rrepV : Memref sig .tc .vmem S2x512x128 .f32 := Memref.whole cc0_scratch11
abbrev dxV : Memref sig .tc .vmem S2x512x1536 .bf16 := Memref.whole cc0_scratch12
abbrev dwV : Memref sig .tc .vmem S3x512x512 .f32 := Memref.whole cc0_scratch13
abbrev dgV : Memref sig .tc .vmem S1x1536 .f32 := Memref.whole cc0_scratch14

/-- The whole buffer of each of them. -/
theorem isW (b : Ref sig .tc) : (Memref.whole b : Memref sig .tc b.space b.ty.shape b.ty.elt).IsWhole :=
  Memref.isWhole_whole b

/-! ## Loads and stores -/

/-- A load of the rectangle at `off` of sizes `sz`. -/
def ld {s : Shape} {e : EltTy} (m : Memref sig .tc .vmem s e) (off sz : Fin s.rank → ℕ)
    (h : ∀ a, off a + sz a ≤ s.size a) (hp : 0 < (Rect.unit (s := s) off sz h).shape.numel) :
    P F ((Rect.unit (s := s) off sz h).shape.Idx → Elt F e) :=
  Prog.lift (.load m (Rect.unit (s := s) off sz h).toLoadRect (View.loadsAt_vmem hp))

/-- A store of a word-wide element type. -/
def st32 {s : Shape} {e : EltTy} (m : Memref sig .tc .vmem s e) (off sz : Fin s.rank → ℕ)
    (h : ∀ a, off a + sz a ≤ s.size a) (v : (Rect.unit (s := s) off sz h).shape.Idx → Elt F e)
    (hp : 0 < (Rect.unit (s := s) off sz h).shape.numel) (he : e.bits = 32) : P F PUnit :=
  Prog.lift (.store m (Rect.unit (s := s) off sz h) v Finset.univ (View.stores_vmem_bits_univ hp he) (.inl rfl))

/-- A store of a packed element type, at whole packed rows. -/
def st16 {s : Shape} {e : EltTy} (m : Memref sig .tc .vmem s e) (hm : m.IsWhole) (off sz : Fin s.rank → ℕ)
    (h : ∀ a, off a + sz a ≤ s.size a) (v : (Rect.unit (s := s) off sz h).shape.Idx → Elt F e)
    (hp : 0 < (Rect.unit (s := s) off sz h).shape.numel)
    (hr : (Rect.unit (s := s) off sz h).PackedRows e.packing) : P F PUnit :=
  Prog.lift (.store m (Rect.unit (s := s) off sz h) v Finset.univ
    (View.stores_vmem hp (hm.storeExact_slice rfl _ hr) (fun _ => rfl)) (.inl rfl))

/-! ## Copies -/

/-- A copy: where from, where to, on which semaphore. -/
structure Cp where
  sp : Space
  sp' : Space
  s : Shape
  e : EltTy
  src : Memref sig .tc sp s e
  dst : Memref sig .tc sp' s e
  sem : DmaSem sig
  hsrc : src.view.WordExact
  hdst : dst.view.WordExact
  hty : (DmaTarget.here dst : DmaTarget nD τ sig .tc sp' s e).Typed sp (.dma sem)

/-- Start it. -/
def start (C : Cp) : P F PUnit :=
  Prog.lift (.enqueueDma C.src (.here C.dst) (.dma C.sem) C.hsrc C.hdst C.hty)

/-- Wait for it. -/
def wait (C : Cp) : P F PUnit :=
  Prog.lift (.waitDma2 C.sem C.src C.dst C.hsrc C.hdst)

/-! ## The semaphores -/

def semHead (c k : ℕ) (hc : c < 4) (hk : k < 2) : DmaSem sig :=
  ((cc0_scratch15.slice (Rect.unit (s := S4x2) ![c, k] S1x1.size (inb2 (by omega) (by omega)))).squeeze S_ squeezes_S1x1_S_).sem
def semW (p : ℕ) (hp : p < 2) : DmaSem sig :=
  ((cc0_scratch16.slice (Rect.unit (s := S2) ![p] S1.size (inb1 (by omega)))).squeeze S_ squeezes_S1_S_).sem
def semX (b : ℕ) (hb : b < 4) : DmaSem sig :=
  ((cc0_scratch17.slice (Rect.unit (s := S4) ![b] S1.size (inb1 (by omega)))).squeeze S_ squeezes_S1_S_).sem
def semDq (b : ℕ) (hb : b < 3) : DmaSem sig :=
  ((cc0_scratch18.slice (Rect.unit (s := S3) ![b] S1.size (inb1 (by omega)))).squeeze S_ squeezes_S1_S_).sem
def semSmall (b : ℕ) (hb : b < 4) : DmaSem sig :=
  ((cc0_scratch19.slice (Rect.unit (s := S4) ![b] S1.size (inb1 (by omega)))).squeeze S_ squeezes_S1_S_).sem
def semDx (b : ℕ) (hb : b < 4) : DmaSem sig :=
  ((cc0_scratch20.slice (Rect.unit (s := S4) ![b] S1.size (inb1 (by omega)))).squeeze S_ squeezes_S1_S_).sem
def semDw (b : ℕ) (hb : b < 12) : DmaSem sig :=
  ((cc0_scratch21.slice (Rect.unit (s := S12) ![b] S1.size (inb1 (by omega)))).squeeze S_ squeezes_S1_S_).sem
def semDg : DmaSem sig :=
  ((cc0_scratch22.slice (Rect.unit (s := S1) ![0] S1.size (inb1 (by omega)))).squeeze S_ squeezes_S1_S_).sem

/-! ## The copies -/

def cpSmall0 : Cp := ⟨_, _, _, _, wsH, wsV, semSmall 0 (by omega), (isW _).wordExact, (isW _).wordExact, ⟨Or.inl rfl, trivial⟩⟩
def cpSmall1 : Cp := ⟨_, _, _, _, gammaH, gammaV, semSmall 1 (by omega), (isW _).wordExact, (isW _).wordExact, ⟨Or.inl rfl, trivial⟩⟩
def cpSmall2 : Cp := ⟨_, _, _, _, rstdH, rstdV, semSmall 2 (by omega), (isW _).wordExact, (isW _).wordExact, ⟨Or.inl rfl, trivial⟩⟩
def cpSmall3 : Cp := ⟨_, _, _, _, xsH, xsV, semSmall 3 (by omega), (isW _).wordExact, (isW _).wordExact, ⟨Or.inl rfl, trivial⟩⟩

/-- The first 512 rows of the weights, 512 columns at a time. -/
def cpHeadW (c : ℕ) (hc : c < 4) : Cp :=
  ⟨_, _, _, _,
   wH.slice (Rect.unit (s := S1536x2048) ![0, c * 512] S512x512.size (inb2 (by omega) (by omega))) (fun _ => rfl),
   wV.slice (Rect.unit (s := S1536x2048) ![0, c * 512] S512x512.size (inb2 (by omega) (by omega))) (fun _ => rfl),
   semHead c 0 hc (by omega),
   (isW main_arg4).wordExact_slice rfl _ (.inl (packed2 _ (Nat.dvd_zero _) (by decide))),
   (isW cc0_scratch4).wordExact_slice rfl _ (.inl (packed2 _ (Nat.dvd_zero _) (by decide))),
   ⟨Or.inl rfl, trivial⟩⟩

/-- The first batch's gradient, 512 columns at a time. -/
def cpHeadQ (c : ℕ) (hc : c < 4) : Cp :=
  ⟨_, _, _, _,
   (dqH.slice (Rect.unit (s := S4x512x2048) ![0, 0, c * 512] S1x512x512.size (inb3 (by omega) (by omega) (by omega))) (fun _ => rfl)).squeeze
     S512x512 squeezes_S1x512x512_S512x512,
   dqV.slice (Rect.unit (s := S2048x2048) ![0, c * 512] S512x512.size (inb2 (by omega) (by omega))) (fun _ => rfl),
   semHead c 1 hc (by omega),
   ((isW main_arg6).wordExact_slice rfl _ (.inl (packed3 _ (Nat.dvd_zero _) (by decide)))).reshape _ _,
   (isW cc0_scratch6).wordExact_slice rfl _ (.inl (packed2 _ (Nat.dvd_zero _) (by decide))),
   ⟨Or.inl rfl, trivial⟩⟩

/-- Rows `512 p` to `512 p + 511` of the weights. -/
def cpW (p : ℕ) (h0 : 0 < p) (hp : p < 3) : Cp :=
  ⟨_, _, _, _,
   wH.slice (Rect.unit (s := S1536x2048) ![p * 512, 0] S512x2048.size (inb2 (by omega) (by omega))) (fun _ => rfl),
   wV.slice (Rect.unit (s := S1536x2048) ![p * 512, 0] S512x2048.size (inb2 (by omega) (by omega))) (fun _ => rfl),
   semW (p - 1) (by omega),
   (isW main_arg4).wordExact_slice rfl _ (.inl (packed2 _ (Dvd.dvd.mul_left (by decide) _) (by decide))),
   (isW cc0_scratch4).wordExact_slice rfl _ (.inl (packed2 _ (Dvd.dvd.mul_left (by decide) _) (by decide))),
   ⟨Or.inl rfl, trivial⟩⟩

/-- Batch `b` of the codes. -/
def cpX (b : ℕ) (hb : b < 4) : Cp :=
  ⟨_, _, _, _,
   (xH.slice (Rect.unit (s := S4x512x1536) ![b, 0, 0] S1x512x1536.size (inb3 (by omega) (by omega) (by omega))) (fun _ => rfl)).squeeze
     S512x1536 squeezes_S1x512x1536_S512x1536,
   xV.slice (Rect.unit (s := S2048x1536) ![b * 512, 0] S512x1536.size (inb2 (by omega) (by omega))) (fun _ => rfl),
   semX b hb,
   ((isW main_arg0).wordExact_slice rfl _ (.inl (packed3 _ (Nat.dvd_zero _) (by decide)))).reshape _ _,
   (isW cc0_scratch0).wordExact_slice rfl _ (.inl (packed2 _ (Dvd.dvd.mul_left (by decide) _) (by decide))),
   ⟨Or.inl rfl, trivial⟩⟩

/-- Batch `b` of the gradient. -/
def cpDq (b : ℕ) (h0 : 0 < b) (hb : b < 4) : Cp :=
  ⟨_, _, _, _,
   (dqH.slice (Rect.unit (s := S4x512x2048) ![b, 0, 0] S1x512x2048.size (inb3 (by omega) (by omega) (by omega))) (fun _ => rfl)).squeeze
     S512x2048 squeezes_S1x512x2048_S512x2048,
   dqV.slice (Rect.unit (s := S2048x2048) ![b * 512, 0] S512x2048.size (inb2 (by omega) (by omega))) (fun _ => rfl),
   semDq (b - 1) (by omega),
   ((isW main_arg6).wordExact_slice rfl _ (.inl (packed3 _ (Nat.dvd_zero _) (by decide)))).reshape _ _,
   (isW cc0_scratch6).wordExact_slice rfl _ (.inl (packed2 _ (Dvd.dvd.mul_left (by decide) _) (by decide))),
   ⟨Or.inl rfl, trivial⟩⟩

/-- Batch `b` of the input gradient, out. -/
def cpDx (b : ℕ) (hb : b < 4) : Cp :=
  ⟨_, _, _, _,
   (dxV.slice (Rect.unit (s := S2x512x1536) ![b % 2, 0, 0] S1x512x1536.size (inb3 (by omega) (by omega) (by omega))) (fun _ => rfl)).squeeze
     S512x1536 squeezes_S1x512x1536_S512x1536,
   (dxH.slice (Rect.unit (s := S4x512x1536) ![b, 0, 0] S1x512x1536.size (inb3 (by omega) (by omega) (by omega))) (fun _ => rfl)).squeeze
     S512x1536 squeezes_S1x512x1536_S512x1536,
   semDx b hb,
   ((isW cc0_scratch12).wordExact_slice rfl _ (.inl (packed3 _ (Nat.dvd_zero _) (by decide)))).reshape _ _,
   ((isW main_v2_0).wordExact_slice rfl _ (.inl (packed3 _ (Nat.dvd_zero _) (by decide)))).reshape _ _,
   ⟨Or.inl rfl, trivial⟩⟩

/-- Tile `u` of the weight gradient, out. -/
def cpDw (u : ℕ) (hu : u < 12) : Cp :=
  ⟨_, _, _, _,
   (dwV.slice (Rect.unit (s := S3x512x512) ![u % 3, 0, 0] S1x512x512.size (inb3 (by omega) (by omega) (by omega))) (fun _ => rfl)).squeeze
     S512x512 squeezes_S1x512x512_S512x512,
   dwH.slice (Rect.unit (s := S1536x2048) ![u / 4 * 512, u % 4 * 512] S512x512.size (inb2 (by omega) (by omega))) (fun _ => rfl),
   semDw u hu,
   (View.wordExact_bits rfl).reshape _ _,
   View.wordExact_bits rfl,
   ⟨Or.inl rfl, trivial⟩⟩

/-- The sum over the tokens, out. -/
def cpDg : Cp := ⟨_, _, _, _, dgV, dgH, semDg, (isW _).wordExact, (isW _).wordExact, ⟨Or.inl rfl, trivial⟩⟩

/-! ## The arithmetic -/

section
variable [FloatOps F]

/-- A weight tile times its columns' scales. -/
noncomputable def vWb (w : Vec F S512x512 .fp8e4m3) (s : Vec F S1x512 .f32) : FVec F S512x512 .bf16 :=
  mulf (extf .bf16 w bitsLt_fp8e4m3_bf16)
    (broadcastTo S512x512 (truncf .bf16 s bitsLt_bf16_f32) broadcasts_S1x512_S512x512)

/-- One batch's gradient against 512 rows of the weights. -/
noncomputable def vDxh (a w : Vec F S512x2048 .bf16) : FVec F S512x512 .f32 :=
  matmul dot_S512x2048_S512x2048_S512x512_1_1_0_0_n_n none a w (constant S512x512 .f32 0x00000000#32)

/-- 128 tokens' factors, each along a row. -/
noncomputable def vRrep (r : Vec F S1x128 .f32) : FVec F S1x128x128 .f32 :=
  shapeCast S1x128x128 (transpose S128x128 [1, 0]
    (broadcastTo S128x128 (shapeCast S1x128 r shapeCasts_S1x128_S1x128) broadcasts_S1x128_S128x128)
    transposes_S128x128_p1_0_S128x128) shapeCasts_S128x128_S1x128x128

/-- 128 tokens' block scales times their factors. -/
noncomputable def vScale (xs r : Vec F S1x128x12 .f32) : FVec F S128x12 .f32 :=
  mulf (shapeCast S128x12 xs shapeCasts_S1x128x12_S128x12) (shapeCast S128x12 r shapeCasts_S1x128x12_S128x12)

/-- 128 tokens' codes of block `j`, times the block's scale. -/
noncomputable def vN (x : Vec F S128x128 .fp8e4m3) (scale : FVec F S128x12 .f32) (j : ℕ) (h : S128x12.Slices ![0, j] S128x1) :
    FVec F S128x128 .f32 :=
  mulf (extf .f32 x bitsLt_fp8e4m3_f32)
    (broadcastTo S128x128 (extractStridedSlice S128x1 ![0, j] scale h) broadcasts_S128x1_S128x128)

/-- Those times the block's weights, features along the rows. -/
noncomputable def vXt (n : FVec F S128x128 .f32) (g : Vec F S1x128 .f32) : FVec F S128x128 .bf16 :=
  transpose S128x128 [1, 0]
    (truncf .bf16 (mulf n (broadcastTo S128x128 g broadcasts_S1x128_S128x128)) bitsLt_bf16_f32)
    transposes_S128x128_p1_0_S128x128

/-- The running sum over the tokens, and 16 tokens more. -/
noncomputable def vDg (dg : Vec F S1x1536 .f32) (p : FVec F S16x1536 .f32) : FVec F S1x1536 .f32 :=
  addf dg (shapeCast S1x1536
    (multiReduction .add [0] S1536 p 0x00000000#32 reduces_S16x1536_S1536 (.inl rfl) rfl) shapeCasts_S1536_S1x1536)

/-- 16 tokens of the input gradient. -/
noncomputable def vDx (invd : F .f32) (g : Vec F S1x1536 .f32) (n dxh p : FVec F S16x1536 .f32) (rr : Vec F S1x16x1 .f32) :
    FVec F S1x16x1536 .bf16 :=
  shapeCast S1x16x1536 (truncf .bf16
    (mulf (broadcastTo S16x1536 (shapeCast S16x1 rr shapeCasts_S1x16x1_S16x1) broadcasts_S16x1_S16x1536)
      (subf (mulf dxh (broadcastTo S16x1536 g broadcasts_S1x1536_S16x1536))
        (mulf n (broadcastTo S16x1536
          (mulf (shapeCast S16x1
              (multiReduction .add [1] S16 (mulf p (broadcastTo S16x1536 g broadcasts_S1x1536_S16x1536)) 0x00000000#32
                reduces_S16x1536_S16 (.inl rfl) rfl) shapeCasts_S16_S16x1)
            (broadcast S16x1 invd)) broadcasts_S16x1_S16x1536)))) bitsLt_bf16_f32)
    shapeCasts_S16x1536_S1x16x1536

/-- 512 features against 512 columns of the gradient, over every token. -/
noncomputable def vDw (a : Vec F S512x2048 .bf16) (b : Vec F S2048x512 .bf16) : FVec F S512x512 .f32 :=
  matmul dot_S512x2048_S2048x512_S512x512_1_0_0_1_n_n none a b (constant S512x512 .f32 0x00000000#32)

/-! ## The steps -/

noncomputable def zeroDg : P F PUnit := do
  let _ ← ld dgV ![0, 0] S1x1536.size (inb2 (by omega) (by omega)) h_S1x1536
  st32 dgV ![0, 0] S1x1536.size (inb2 (by omega) (by omega))
    (shapeCast S1x1536 (broadcast S1x1536 (Scalar.ofBits .f32 0x00000000#32)) shapeCasts_S1x1536_S1x1536) h_S1x1536 rfl

noncomputable def dequant (p c : ℕ) (hp : p < 3) (hc : c < 4) : P F PUnit := do
  let w ← ld wV ![p * 512, c * 512] S512x512.size (inb2 (by omega) (by omega)) h_S512x512
  let s ← ld wsV ![0, c * 512] S1x512.size (inb2 (by omega) (by omega)) h_S1x512
  let _ ← ld wbV ![p * 512, c * 512] S512x512.size (inb2 (by omega) (by omega)) h_S512x512
  st16 wbV (isW cc0_scratch7) ![p * 512, c * 512] S512x512.size (inb2 (by omega) (by omega))
    (shapeCast S512x512 (vWb w s) shapeCasts_S512x512_S512x512) h_S512x512
    (packed2 _ (Dvd.dvd.mul_left (by decide) _) (by decide))

noncomputable def dxhat (b p : ℕ) (hb : b < 4) (hp : p < 3) : P F PUnit := do
  let a ← ld dqV ![b * 512, 0] S512x2048.size (inb2 (by omega) (by omega)) h_S512x2048
  let w ← ld wbV ![p * 512, 0] S512x2048.size (inb2 (by omega) (by omega)) h_S512x2048
  let _ ← ld dxhV ![b % 2, 0, p * 512] S1x512x512.size (inb3 (by omega) (by omega) (by omega)) h_S1x512x512
  st32 dxhV ![b % 2, 0, p * 512] S1x512x512.size (inb3 (by omega) (by omega) (by omega))
    (shapeCast S1x512x512 (vDxh a w) shapeCasts_S512x512_S1x512x512) h_S1x512x512 rfl

noncomputable def rrep (b : ℕ) (hb : b < 4) (r : ℕ) (hr : r < 4) : P F PUnit := do
  let v ← ld rstdV ![b, r * 128] S1x128.size (inb2 (by omega) (by omega)) h_S1x128
  let _ ← ld rrepV ![b % 2, r * 128, 0] S1x128x128.size (inb3 (by omega) (by omega) (by omega)) h_S1x128x128
  st32 rrepV ![b % 2, r * 128, 0] S1x128x128.size (inb3 (by omega) (by omega) (by omega)) (vRrep v) h_S1x128x128 rfl

/-- The scales of 128 tokens of batch `b`. -/
noncomputable def scale (b : ℕ) (hb : b < 4) (r : ℕ) (hr : r < 4) : P F (FVec F S128x12 .f32) := do
  let xs ← ld xsV ![b, r * 128, 0] S1x128x12.size (inb3 (by omega) (by omega) (by omega)) h_S1x128x12
  let rr ← ld rrepV ![b % 2, r * 128, 0] S1x128x12.size (inb3 (by omega) (by omega) (by omega)) h_S1x128x12
  pure (vScale xs rr)

/-- Block `j` of those tokens: the normalized values stored, their weighted transpose returned. -/
noncomputable def tileA (b : ℕ) (hb : b < 4) (r : ℕ) (hr : r < 4) (sc : FVec F S128x12 .f32) (j : ℕ) (hj : j < 12) :
    P F (FVec F S128x128 .bf16) := do
  let x ← ld xV ![b * 512 + r * 128, j * 128] S128x128.size (inb2 (by omega) (by omega)) h_S128x128
  let _ ← ld nV ![b % 2, r * 128, j * 128] S1x128x128.size (inb3 (by omega) (by omega) (by omega)) h_S1x128x128
  st32 nV ![b % 2, r * 128, j * 128] S1x128x128.size (inb3 (by omega) (by omega) (by omega))
    (shapeCast S1x128x128 (vN x sc j (by interval_cases j <;> decide)) shapeCasts_S128x128_S1x128x128) h_S1x128x128 rfl
  let g ← ld gammaV ![0, j * 128] S1x128.size (inb2 (by omega) (by omega)) h_S1x128
  pure (vXt (vN x sc j (by interval_cases j <;> decide)) g)

noncomputable def tileB (b : ℕ) (hb : b < 4) (r : ℕ) (hr : r < 4) (j : ℕ) (hj : j < 12) (v : FVec F S128x128 .bf16) : P F PUnit := do
  let _ ← ld xtV ![j * 128, b * 512 + r * 128] S128x128.size (inb2 (by omega) (by omega)) h_S128x128
  st16 xtV (isW cc0_scratch8) ![j * 128, b * 512 + r * 128] S128x128.size (inb2 (by omega) (by omega))
    (shapeCast S128x128 v shapeCasts_S128x128_S128x128) h_S128x128 (packed2 _ (Dvd.dvd.mul_left (by decide) _) (by decide))

noncomputable def tile (b : ℕ) (hb : b < 4) (r : ℕ) (hr : r < 4) (sc : FVec F S128x12 .f32) (j : ℕ) (hj : j < 12) : P F PUnit := do
  let v ← tileA b hb r hr sc j hj
  tileB b hb r hr j hj v

noncomputable def prepRow (b : ℕ) (hb : b < 4) (r : ℕ) (hr : r < 4) : P F PUnit := do
  let sc ← scale b hb r hr
  forN 12 (tile b hb r hr sc)

noncomputable def prep (b : ℕ) (hb : b < 4) : P F PUnit := do
  forN 4 (rrep b hb)
  forN 4 (prepRow b hb)

noncomputable def gammaRow : P F (Vec F S1x1536 .f32) :=
  ld gammaV ![0, 0] S1x1536.size (inb2 (by omega) (by omega)) h_S1x1536

/-- What 16 tokens' pass through the backward normalization carries from its first half to its second. -/
structure Half (F : FTy → Type) where
  n : FVec F S16x1536 .f32
  dxh : FVec F S16x1536 .f32
  p : FVec F S16x1536 .f32
  dg : FVec F S1x1536 .f32

noncomputable def normA (b : ℕ) (hb : b < 4) (r : ℕ) (hr : r < 32) : P F (Half F) := do
  let n ← ld nV ![b % 2, r * 16, 0] S1x16x1536.size (inb3 (by omega) (by omega) (by omega)) h_S1x16x1536
  let dxh ← ld dxhV ![b % 2, r * 16, 0] S1x16x1536.size (inb3 (by omega) (by omega) (by omega)) h_S1x16x1536
  let dg ← ld dgV ![0, 0] S1x1536.size (inb2 (by omega) (by omega)) h_S1x1536
  let _ ← ld dgV ![0, 0] S1x1536.size (inb2 (by omega) (by omega)) h_S1x1536
  pure ⟨shapeCast S16x1536 n shapeCasts_S1x16x1536_S16x1536, shapeCast S16x1536 dxh shapeCasts_S1x16x1536_S16x1536,
    mulf (shapeCast S16x1536 dxh shapeCasts_S1x16x1536_S16x1536) (shapeCast S16x1536 n shapeCasts_S1x16x1536_S16x1536),
    shapeCast S1x1536 (vDg dg (mulf (shapeCast S16x1536 dxh shapeCasts_S1x16x1536_S16x1536)
      (shapeCast S16x1536 n shapeCasts_S1x16x1536_S16x1536))) shapeCasts_S1x1536_S1x1536⟩

noncomputable def normB (invd : F .f32) (g : Vec F S1x1536 .f32) (b : ℕ) (hb : b < 4) (r : ℕ) (hr : r < 32) (H : Half F) : P F PUnit := do
  st32 dgV ![0, 0] S1x1536.size (inb2 (by omega) (by omega)) H.dg h_S1x1536 rfl
  let rr ← ld rrepV ![b % 2, r * 16, 0] S1x16x1.size (inb3 (by omega) (by omega) (by omega)) h_S1x16x1
  let _ ← ld dxV ![b % 2, r * 16, 0] S1x16x1536.size (inb3 (by omega) (by omega) (by omega)) h_S1x16x1536
  st16 dxV (isW cc0_scratch12) ![b % 2, r * 16, 0] S1x16x1536.size (inb3 (by omega) (by omega) (by omega))
    (vDx invd g H.n H.dxh H.p rr) h_S1x16x1536 (packed3 _ (Dvd.dvd.mul_left (by decide) _) (by decide))

noncomputable def normRow (invd : F .f32) (b : ℕ) (hb : b < 4) (g : Vec F S1x1536 .f32) (r : ℕ) (hr : r < 32) : P F PUnit := do
  let H ← normA b hb r hr
  normB invd g b hb r hr H

noncomputable def norm (invd : F .f32) (b : ℕ) (hb : b < 4) : P F PUnit := do
  let g ← gammaRow
  forN 32 (normRow invd b hb g)

noncomputable def dwUnit (u : ℕ) (hu : u < 12) : P F PUnit := do
  let a ← ld xtV ![u / 4 * 512, 0] S512x2048.size (inb2 (by omega) (by omega)) h_S512x2048
  let b ← ld dqV ![0, u % 4 * 512] S2048x512.size (inb2 (by omega) (by omega)) h_S2048x512
  let _ ← ld dwV ![u % 3, 0, 0] S1x512x512.size (inb3 (by omega) (by omega) (by omega)) h_S1x512x512
  st32 dwV ![u % 3, 0, 0] S1x512x512.size (inb3 (by omega) (by omega) (by omega))
    (shapeCast S1x512x512 (vDw a b) shapeCasts_S512x512_S1x512x512) h_S1x512x512 rfl

/-! ## The body -/

/-- Every copy in that nothing waits on first. -/
noncomputable def startIn : P F PUnit := do
  start cpSmall0
  forN 4 (fun c hc => do start (cpHeadW c hc); start (cpHeadQ c hc))
  start cpSmall1
  start cpSmall2
  start (cpW 1 (by omega) (by omega))
  start (cpW 2 (by omega) (by omega))
  start cpSmall3
  start (cpX 0 (by omega))
  forN 3 (fun b hb => do start (cpDq (b + 1) (by omega) (by omega)); start (cpX (b + 1) (by omega)))

/-- Batch 0's contractions, while the weights arrive. -/
noncomputable def first : P F PUnit := do
  wait cpSmall0
  zeroDg
  forN 4 (fun c hc => do wait (cpHeadW c hc); wait (cpHeadQ c hc); dequant 0 c (by omega) hc)
  dxhat 0 0 (by omega) (by omega)
  forN 2 (fun p hp => do
    wait (cpW (p + 1) (by omega) (by omega))
    forN 4 (fun c hc => dequant (p + 1) c (by omega) hc)
    dxhat 0 (p + 1) (by omega) (by omega))

/-- What is waited on before the first normalization. -/
noncomputable def waitIn : P F PUnit := do
  wait cpSmall1
  wait cpSmall2
  wait cpSmall3
  wait (cpX 0 (by omega))

noncomputable def batch (invd : F .f32) (b : ℕ) (hb : b + 1 < 4) (w : P F PUnit) : P F PUnit := do
  wait (cpDq (b + 1) (by omega) hb)
  wait (cpX (b + 1) hb)
  w
  prep b (by omega)
  forN 3 (fun p hp => dxhat (b + 1) p hb hp)
  norm invd b (by omega)
  start (cpDx b (by omega))

noncomputable def last (invd : F .f32) : P F PUnit := do
  prep 3 (by omega)
  wait (cpDx 1 (by omega))
  dwUnit 0 (by omega)
  norm invd 3 (by omega)
  start (cpDx 3 (by omega))
  start cpDg
  start (cpDw 0 (by omega))
  forN 2 (fun u hu => do dwUnit (u + 1) (by omega); start (cpDw (u + 1) (by omega)))
  forN 9 (fun u hu => do
    wait (cpDw u (by omega))
    dwUnit (u + 3) (by omega)
    start (cpDw (u + 3) (by omega)))
  wait (cpDx 2 (by omega))
  wait (cpDx 3 (by omega))
  wait cpDg
  forN 3 (fun u hu => wait (cpDw (u + 9) (by omega)))

/-! ## The four stretches the printed body is cut into -/

/-- Up to the first half of batch 0's normalization of its 16 tokens from 464 on. -/
noncomputable def chunkA (invd : F .f32) : P F (Σ' (_ : Vec F S1x1536 .f32) (_ : FVec F S16x1536 .f32) (_ : FVec F S16x1536 .f32) (_ : FVec F S16x1536 .f32), FVec F S1x1536 .f32) := do
  startIn
  first
  waitIn
  wait (cpDq 1 (by omega) (by omega))
  wait (cpX 1 (by omega))
  prep 0 (by omega)
  forN 3 (fun p hp => dxhat 1 p (by omega) hp)
  let g ← gammaRow
  loop 32 (normRow invd 0 (by omega) g) 29 0 (by omega)
  let H ← normA 0 (by omega) 29 (by omega)
  pure ⟨g, H.n, H.dxh, H.p, H.dg⟩

/-- On to batch 2's first tokens, block 7. -/
noncomputable def chunkB (invd : F .f32) (g : Vec F S1x1536 .f32) (n dxh p : FVec F S16x1536 .f32) (dg : FVec F S1x1536 .f32) :
    P F (Σ' (_ : FVec F S128x12 .f32), FVec F S128x128 .bf16) := do
  normB invd g 0 (by omega) 29 (by omega) ⟨n, dxh, p, dg⟩
  loop 32 (normRow invd 0 (by omega) g) 2 30 (by omega)
  start (cpDx 0 (by omega))
  batch invd 1 (by omega) (pure ⟨⟩)
  wait (cpDq 3 (by omega) (by omega))
  wait (cpX 3 (by omega))
  wait (cpDx 0 (by omega))
  forN 4 (rrep 2 (by omega))
  let sc ← scale 2 (by omega) 0 (by omega)
  loop 12 (tile 2 (by omega) 0 (by omega) sc) 7 0 (by omega)
  let v ← tileA 2 (by omega) 0 (by omega) sc 7 (by omega)
  pure ⟨sc, v⟩

/-- On to batch 3's third 128 tokens, block 0. -/
noncomputable def chunkC (invd : F .f32) (sc : FVec F S128x12 .f32) (v : FVec F S128x128 .bf16) :
    P F (Σ' (_ : FVec F S128x12 .f32), FVec F S128x128 .bf16) := do
  tileB 2 (by omega) 0 (by omega) 7 (by omega) v
  loop 12 (tile 2 (by omega) 0 (by omega) sc) 4 8 (by omega)
  loop 4 (prepRow 2 (by omega)) 3 1 (by omega)
  forN 3 (fun p hp => dxhat 3 p (by omega) hp)
  norm invd 2 (by omega)
  start (cpDx 2 (by omega))
  forN 4 (rrep 3 (by omega))
  loop 4 (prepRow 3 (by omega)) 2 0 (by omega)
  let sc ← scale 3 (by omega) 2 (by omega)
  let v ← tileA 3 (by omega) 2 (by omega) sc 0 (by omega)
  pure ⟨sc, v⟩

/-- Up to the last wait. -/
noncomputable def chunkD (invd : F .f32) (sc : FVec F S128x12 .f32) (v : FVec F S128x128 .bf16) : P F PUnit := do
  tileB 3 (by omega) 2 (by omega) 0 (by omega) v
  loop 12 (tile 3 (by omega) 2 (by omega) sc) 11 1 (by omega)
  prepRow 3 (by omega) 3 (by omega)
  wait (cpDx 1 (by omega))
  dwUnit 0 (by omega)
  norm invd 3 (by omega)
  start (cpDx 3 (by omega))
  start cpDg
  start (cpDw 0 (by omega))
  forN 2 (fun u hu => do dwUnit (u + 1) (by omega); start (cpDw (u + 1) (by omega)))
  forN 9 (fun u hu => do
    wait (cpDw u (by omega))
    dwUnit (u + 3) (by omega)
    start (cpDw (u + 3) (by omega)))
  wait (cpDx 2 (by omega))
  wait (cpDx 3 (by omega))
  wait cpDg
  loop 3 (fun u hu => wait (cpDw (u + 9) (by omega))) 2 0 (by omega)

/-! ## All of it -/

/-- The whole body. -/
noncomputable def body (invd : F .f32) : P F PUnit := do
  startIn
  first
  waitIn
  batch invd 0 (by omega) (pure ⟨⟩)
  batch invd 1 (by omega) (pure ⟨⟩)
  batch invd 2 (by omega) (wait (cpDx 0 (by omega)))
  last invd

end

end Cert.Proof.Body
-- ==== Proof.SameA.lean ====
module

public import proofs.«01_k».proof.Proof.Prog

@[expose] public section

set_option maxRecDepth 100000
set_option maxHeartbeats 0

namespace Cert.Proof.Body

open Idealize.ShloMosaic Idealize.SL.Sem
open Cert.KernelIdeal Cert.KernelIdeal.Gen

variable {F : FTy → Type} [FloatOps F] [Named F]

theorem sameA : k0_part228 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 = chunkA (Named.named κ "inv_d" 0x3A2AAAAB#32) := by
  rfl

end Cert.Proof.Body
-- ==== Proof.SameB.lean ====
module

public import proofs.«01_k».proof.Proof.Prog

@[expose] public section

set_option maxRecDepth 100000
set_option maxHeartbeats 0

namespace Cert.Proof.Body

open Idealize.ShloMosaic Idealize.SL.Sem
open Cert.KernelIdeal Cert.KernelIdeal.Gen

variable {F : FTy → Type} [FloatOps F] [Named F]

theorem sameB (g : Vec F S1x1536 .f32) (n dxh p : FVec F S16x1536 .f32) (dg : FVec F S1x1536 .f32) :
    k0_part229 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 g n dxh p dg = chunkB (Named.named κ "inv_d" 0x3A2AAAAB#32) g n dxh p dg := by
  rfl

end Cert.Proof.Body
-- ==== Proof.SameC.lean ====
module

public import proofs.«01_k».proof.Proof.Prog

@[expose] public section

set_option maxRecDepth 100000
set_option maxHeartbeats 0

namespace Cert.Proof.Body

open Idealize.ShloMosaic Idealize.SL.Sem
open Cert.KernelIdeal Cert.KernelIdeal.Gen

variable {F : FTy → Type} [FloatOps F] [Named F]

theorem sameC (sc : FVec F S128x12 .f32) (v : FVec F S128x128 .bf16) :
    k0_part230 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 sc v = chunkC (Named.named κ "inv_d" 0x3A2AAAAB#32) sc v := by
  rfl

end Cert.Proof.Body
-- ==== Proof.SameD.lean ====
module

public import proofs.«01_k».proof.Proof.Prog

@[expose] public section

set_option maxRecDepth 100000
set_option maxHeartbeats 0

namespace Cert.Proof.Body

open Idealize.ShloMosaic Idealize.SL.Sem
open Cert.KernelIdeal Cert.KernelIdeal.Gen

variable {F : FTy → Type} [FloatOps F] [Named F]

theorem sameD (sc : FVec F S128x12 .f32) (v : FVec F S128x128 .bf16) :
    k0_part231 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 sc v = chunkD (Named.named κ "inv_d" 0x3A2AAAAB#32) sc v := by
  rfl

end Cert.Proof.Body
-- ==== Proof.SameE.lean ====
module

public import proofs.«01_k».proof.Proof.SameA
public import proofs.«01_k».proof.Proof.SameB
public import proofs.«01_k».proof.Proof.SameC
public import proofs.«01_k».proof.Proof.SameD

@[expose] public section

set_option maxRecDepth 100000
set_option maxHeartbeats 0

namespace Cert.Proof.Body

open Idealize.ShloMosaic Idealize.SL.Sem
open Cert.KernelIdeal Cert.KernelIdeal.Gen

variable {F : FTy → Type} [FloatOps F] [Named F]

theorem same_body : cc0_rmsnorm_qkv_bwd (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 = body (Named.named κ "inv_d" 0x3A2AAAAB#32) := by
  unfold cc0_rmsnorm_qkv_bwd
  simp only [sameA, sameB, sameC, sameD]
  simp only [chunkA, chunkB, chunkC, chunkD, body, batch, last, norm, prep, prepRow, normRow, tile, forN, loop, bind_assoc, pure_bind]
  rfl
end Cert.Proof.Body
-- ==== Proof.Calc.lean ====
/- A calculus for the kernel's body: what a program computes, as a predicate transformer on the buffers' contents that
   forgets when copies land (`W`), and a judgement (`Safe`) that a program may be run with a given set of copies in
   flight, in which case the run computes what `W` says. -/
module

public import proofs.«01_k».proof.Proof.Prog
public import Idealize.ShloMosaic.Lib.Pipeline.FrameBody
public import Idealize.ShloMosaic.Lib.Ring
public import Idealize.ShloMosaic.Lib.Tactic
public import Idealize.SL.ProofMode.BigOp

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} {α β : Type}

/-! ## What a program computes -/

/-- The contents of every buffer of the core. -/
abbrev St (F : FTy → Type) : Type := (b : Ref sig .tc) → b.ty.Contents (Elt F)

/-- The contents with buffer `b`'s replaced. -/
def setV (V : St F) (b : Ref sig .tc) (f : b.ty.Contents (Elt F)) : St F := Function.update V b f

/-- One operation: a load reads, a store and a copy write, a wait does nothing. -/
def stepW {β : Type} (e : TpuEff nD τ sig (Elt F) Λ₀ .tc β) : (β → St F → Prop) → St F → Prop :=
  match β, e with
  | _, .load m r _ => fun K V => K (m.view.readAt (Elt F) r (V m.view.ref)) V
  | _, .store m r w M _ _ => fun K V => K ⟨⟩ (setV V m.view.ref ((m.access r).write (Elt F) (V m.view.ref) w M))
  | _, .enqueueDmaAs src (.here dst) via _ _ _ _ => fun K V =>
      K ⟨⟩ (setV V dst.view.ref (dst.view.write (Elt F) (V dst.view.ref) (via.apply (src.view.read (Elt F) (V src.view.ref))) Finset.univ))
  | _, .waitDma _ _ _ _ _ => fun K V => K ⟨⟩ V
  | _, _ => fun _ _ => True

/-- What holds before a program so that `Φ` holds of its result and the contents after it. -/
def W : P F α → (α → St F → Prop) → St F → Prop
  | .ret a, Φ => fun V => Φ a V
  | .op e k, Φ => stepW e (fun x => W (k x) Φ)

theorem stepW_mono {β : Type} (e : TpuEff nD τ sig (Elt F) Λ₀ .tc β) {K K' : β → St F → Prop}
    (h : ∀ x V, K x V → K' x V) (V : St F) : stepW e K V → stepW e K' V := by
  cases e with
  | enqueueDmaAs src tgt => cases tgt <;> first | exact h _ _ | exact id
  | _ => first | exact h _ _ | exact id

theorem W_mono (p : P F α) {Φ Φ' : α → St F → Prop} (h : ∀ a V, Φ a V → Φ' a V) : ∀ V, W p Φ V → W p Φ' V := by
  induction p with
  | ret a => exact h a
  | op e k ih => exact fun V => stepW_mono e ih V

theorem W_bind (p : P F α) (f : α → P F β) (Φ : β → St F → Prop) :
    W (p >>= f) Φ = W p (fun a => W (f a) Φ) := by
  induction p with
  | ret a => rfl
  | op e k ih => exact congrArg (stepW e) (funext fun x => ih x)

theorem stepW_true {β : Type} (e : TpuEff nD τ sig (Elt F) Λ₀ .tc β) {K : β → St F → Prop} (h : ∀ x V, K x V) (V : St F) :
    stepW e K V := by
  cases e with
  | enqueueDmaAs src tgt => cases tgt <;> first | exact h _ _ | trivial
  | _ => first | exact h _ _ | trivial

theorem W_true (p : P F α) {Φ : α → St F → Prop} (h : ∀ a V, Φ a V) : ∀ V, W p Φ V := by
  induction p with
  | ret a => exact h a
  | op e k ih => exact fun V => stepW_true e ih V

/-! ## The copies by number, and the pieces of the buffers they touch -/

/-- Copy `k` is the one on semaphore `k`. -/
def cpAt : Fin 38 → Cp :=
  ![cpHeadW 0 (by omega), cpHeadQ 0 (by omega), cpHeadW 1 (by omega), cpHeadQ 1 (by omega),
    cpHeadW 2 (by omega), cpHeadQ 2 (by omega), cpHeadW 3 (by omega), cpHeadQ 3 (by omega),
    cpW 1 (by omega) (by omega), cpW 2 (by omega) (by omega),
    cpX 0 (by omega), cpX 1 (by omega), cpX 2 (by omega), cpX 3 (by omega),
    cpDq 1 (by omega) (by omega), cpDq 2 (by omega) (by omega), cpDq 3 (by omega) (by omega),
    cpSmall0, cpSmall1, cpSmall2, cpSmall3,
    cpDx 0 (by omega), cpDx 1 (by omega), cpDx 2 (by omega), cpDx 3 (by omega),
    cpDw 0 (by omega), cpDw 1 (by omega), cpDw 2 (by omega), cpDw 3 (by omega),
    cpDw 4 (by omega), cpDw 5 (by omega), cpDw 6 (by omega), cpDw 7 (by omega),
    cpDw 8 (by omega), cpDw 9 (by omega), cpDw 10 (by omega), cpDw 11 (by omega), cpDg]

/-- An element of a buffer. -/
abbrev Cell : Type := (b : Ref sig .tc) × b.ty.Idx

/-- Its coordinate on axis `a`, zero where there is no such axis. -/
def crd (b : Ref sig .tc) (i : b.ty.Idx) (a : ℕ) : ℕ := if h : a < b.ty.shape.rank then (i ⟨a, h⟩ : ℕ) else 0

/-- The number of the piece an element lies in: a hundred numbers for each buffer that copies take piecewise. -/
def code (b : Ref sig .tc) (i : b.ty.Idx) : ℕ :=
  if b = main_arg0 then 100 + crd b i 0 else
  if b = main_arg4 then 200 + (crd b i 0 / 512 * 4 + crd b i 1 / 512) else
  if b = main_arg6 then 300 + (crd b i 0 * 4 + crd b i 2 / 512) else
  if b = main_v2_0 then 400 + crd b i 0 else
  if b = main_v2_1 then 500 + (crd b i 0 / 512 * 4 + crd b i 1 / 512) else
  if b = main_v2_2 then 600 else
  if b = main_v1 then 700 else
  if b = main_v0 then 701 else
  if b = main_arg2 then 702 else
  if b = main_arg1 then 703 else
  if b = cc0_scratch0 then 1100 + crd b i 0 / 512 else
  if b = cc0_scratch4 then 1200 + (crd b i 0 / 512 * 4 + crd b i 1 / 512) else
  if b = cc0_scratch6 then 1300 + (crd b i 0 / 512 * 4 + crd b i 1 / 512) else
  if b = cc0_scratch12 then 1400 + crd b i 0 else
  if b = cc0_scratch13 then 1500 + crd b i 0 else
  if b = cc0_scratch14 then 1600 else
  if b = cc0_scratch5 then 1700 else
  if b = cc0_scratch3 then 1701 else
  if b = cc0_scratch2 then 1702 else
  if b = cc0_scratch1 then 1703 else
  if b = cc0_scratch7 then 1801 else
  if b = cc0_scratch8 then 1802 else
  if b = cc0_scratch9 then 1803 else
  if b = cc0_scratch10 then 1804 else 1805

/-- The pieces copy `k` touches. -/
def pcs : Fin 38 → Finset ℕ :=
  ![{200, 1200}, {300, 1300}, {201, 1201}, {301, 1301}, {202, 1202}, {302, 1302}, {203, 1203}, {303, 1303},
    {204, 205, 206, 207, 1204, 1205, 1206, 1207}, {208, 209, 210, 211, 1208, 1209, 1210, 1211},
    {100, 1100}, {101, 1101}, {102, 1102}, {103, 1103},
    {304, 305, 306, 307, 1304, 1305, 1306, 1307}, {308, 309, 310, 311, 1308, 1309, 1310, 1311},
    {312, 313, 314, 315, 1312, 1313, 1314, 1315},
    {700, 1700}, {701, 1701}, {702, 1702}, {703, 1703},
    {400, 1400}, {401, 1401}, {402, 1400}, {403, 1401},
    {500, 1500}, {501, 1501}, {502, 1502}, {503, 1500}, {504, 1501}, {505, 1502}, {506, 1500}, {507, 1501},
    {508, 1502}, {509, 1500}, {510, 1501}, {511, 1502}, {600, 1600}]

/-- The buffers the body uses. -/
def refsU : Finset (Ref sig .tc) :=
  {main_arg0, main_arg1, main_arg2, main_v0, main_arg4, main_v1, main_arg6, main_v2_0, main_v2_1, main_v2_2,
   cc0_scratch0, cc0_scratch1, cc0_scratch2, cc0_scratch3, cc0_scratch4, cc0_scratch5, cc0_scratch6, cc0_scratch7,
   cc0_scratch8, cc0_scratch9, cc0_scratch10, cc0_scratch11, cc0_scratch12, cc0_scratch13, cc0_scratch14}

/-- Those it only reads. -/
def refsH : Finset (Ref sig .tc) := {main_arg0, main_arg1, main_arg2, main_v0, main_arg4, main_v1, main_arg6}

theorem cpAt_sem (k : Fin 38) : (cpAt k).sem = k := by fin_cases k <;> rfl
theorem cpAt_ne (k : Fin 38) : (cpAt k).src.view.ref ≠ (cpAt k).dst.view.ref := by fin_cases k <;> decide
theorem cpAt_src (k : Fin 38) : (cpAt k).src.view.ref ∈ refsU := by fin_cases k <;> decide
theorem cpAt_dst (k : Fin 38) : (cpAt k).dst.view.ref ∈ refsU := by fin_cases k <;> decide
theorem cpAt_dstH (k : Fin 38) : (cpAt k).dst.view.ref ∉ refsH := by fin_cases k <;> decide
theorem cpAt_numel (k : Fin 38) : 0 < (cpAt k).s.numel := by fin_cases k <;> simp only [cpAt] <;> first | exact h_S512x512 | exact (by decide)

end Cert.Proof.Body
-- ==== Proof.Safe.lean ====
/- Running with copies in flight: what the core holds (`A`), the judgement `Safe`, and its rule for each operation. -/
module

public import proofs.«01_k».proof.Proof.Calc

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} {α β : Type}

local notation "𝕄" => MT nD τ sig Unit (Elt F) ℕ (Pipeline.UD sig nD τ) ℕ

/-! ## The elements no copy in flight touches -/

/-- The elements of a view. -/
def cells {sp : Space} {s : Shape} {e : EltTy} (v : View sig .tc sp s e) : Set Cell := {x | ∃ j ∈ v.set, x = ⟨v.ref, j⟩}

theorem mem_cells {sp : Space} {s : Shape} {e : EltTy} (v : View sig .tc sp s e) (i : v.ref.ty.Idx) :
    (⟨v.ref, i⟩ : Cell) ∈ cells v ↔ i ∈ v.set :=
  ⟨fun ⟨j, hj, h⟩ => by rw [eq_of_heq (Sigma.mk.inj h).2]; exact hj, fun h => ⟨i, h, rfl⟩⟩

theorem cells_ref {sp : Space} {s : Shape} {e : EltTy} {v : View sig .tc sp s e} {b : Ref sig .tc} {i : b.ty.Idx}
    (h : (⟨b, i⟩ : Cell) ∈ cells v) : b = v.ref := let ⟨_, _, h⟩ := h; (Sigma.mk.inj h).1

/-- What copy `k` touches. -/
def touched (k : Fin 38) : Set Cell := cells (cpAt k).src.view ∪ cells (cpAt k).dst.view

open Classical in
/-- What no copy of `pend` touches. -/
def free (pend : Finset (Fin 38)) (b : Ref sig .tc) : Finset b.ty.Idx :=
  Finset.univ.filter fun i => ∀ k ∈ pend, (⟨b, i⟩ : Cell) ∉ touched k

theorem mem_free {pend : Finset (Fin 38)} {b : Ref sig .tc} {i : b.ty.Idx} :
    i ∈ free pend b ↔ ∀ k ∈ pend, (⟨b, i⟩ : Cell) ∉ touched k := by simp [free]

theorem free_empty (b : Ref sig .tc) : free ∅ b = Finset.univ := by ext i; simp [mem_free]

theorem free_insert_src (pend : Finset (Fin 38)) (k : Fin 38) :
    free (insert k pend) (cpAt k).src.view.ref = free pend (cpAt k).src.view.ref \ (cpAt k).src.view.set := by
  ext i
  simp only [mem_free, Finset.mem_sdiff, Finset.forall_mem_insert, touched, Set.mem_union, mem_cells, not_or]
  constructor
  · exact fun h => ⟨h.2, h.1.1⟩
  · exact fun h => ⟨⟨h.2, fun h' => cpAt_ne k (cells_ref h')⟩, h.1⟩

theorem free_insert_dst (pend : Finset (Fin 38)) (k : Fin 38) :
    free (insert k pend) (cpAt k).dst.view.ref = free pend (cpAt k).dst.view.ref \ (cpAt k).dst.view.set := by
  ext i
  simp only [mem_free, Finset.mem_sdiff, Finset.forall_mem_insert, touched, Set.mem_union, mem_cells, not_or]
  constructor
  · exact fun h => ⟨h.2, h.1.2⟩
  · exact fun h => ⟨⟨fun h' => cpAt_ne k (cells_ref h').symm, h.2⟩, h.1⟩

theorem free_insert_of_ne (pend : Finset (Fin 38)) (k : Fin 38) {b : Ref sig .tc}
    (hs : b ≠ (cpAt k).src.view.ref) (hd : b ≠ (cpAt k).dst.view.ref) : free (insert k pend) b = free pend b := by
  ext i
  simp only [mem_free, Finset.forall_mem_insert, touched, Set.mem_union, not_or]
  exact ⟨fun h => h.2, fun h => ⟨⟨fun h' => hs (cells_ref h'), fun h' => hd (cells_ref h')⟩, h⟩⟩

/-! ## What the core holds -/

/-- What copy `k` gives back at its wait. -/
def D (c : Dev nD) (V : St F) (k : Fin 38) : sProp 𝕄 :=
  iprop(((cpAt k).dst.view.loc c ↦[(cpAt k).dst.view.set]{fullShare} V (cpAt k).dst.view.ref)
    ∗ ((cpAt k).src.view.loc c ↦[(cpAt k).src.view.set]{fullShare} V (cpAt k).src.view.ref))

/-- A copy in flight, or its semaphore at zero. -/
def semA (c : Dev nD) (V : St F) (pend : Finset (Fin 38)) (k : Fin 38) : sProp 𝕄 :=
  if k ∈ pend then Flight (countersEmb (U := Pipeline.UD sig nD τ)) (c : Thread nD τ) (.dma k) () (cpAt k).dst.view.dmaCredit (D c V k)
  else semVal ((c : Thread nD τ), .dma k) 0

/-- A buffer's free elements. -/
abbrev bufA (c : Dev nD) (V : St F) (pend : Finset (Fin 38)) (b : Ref sig .tc) : sProp 𝕄 :=
  iprop((c : Thread nD τ).loc b ↦[free pend b]{fullShare} V b)

/-- Everything the core holds, at contents `V`, with the copies of `pend` in flight. -/
def A (c : Dev nD) (V0 V : St F) (pend : Finset (Fin 38)) : sProp 𝕄 :=
  iprop(⌜∀ b ∈ refsH, V b = V0 b⌝ ∗ bigSep refsU (bufA c V pend) ∗ bigSep Finset.univ (semA c V pend)
    ∗ ∃ W, owes (c : Thread nD τ) 0 W)

/-- `V'` differs from `V` on `b`'s free elements only. -/
structure Agree (pend : Finset (Fin 38)) (b : Ref sig .tc) (V V' : St F) : Prop where
  off : ∀ b' ≠ b, V' b' = V b'
  at_ : ∀ i ∉ free pend b, V' b i = V b i
  held : b ∈ refsH → V' b = V b

theorem Agree.refl (pend : Finset (Fin 38)) (b : Ref sig .tc) (V : St F) : Agree pend b V V := ⟨fun _ _ => rfl, fun _ _ => rfl, fun _ => rfl⟩

theorem pointsTo_agree (c : Dev nD) {sp : Space} {s : Shape} {e : EltTy} (v : View sig .tc sp s e) {pend : Finset (Fin 38)}
    {b : Ref sig .tc} {V V' : St F} (h : Agree pend b V V') (hv : ∀ i ∈ v.set, i ∉ free pend v.ref) :
    (v.loc c ↦[v.set]{fullShare} V' v.ref : sProp 𝕄) = (v.loc c ↦[v.set]{fullShare} V v.ref) := by
  refine pointsTo_congr fun i hi => ?_
  by_cases hb : v.ref = b
  · subst hb; exact h.at_ i (hv i hi)
  · rw [h.off _ hb]

theorem D_agree (c : Dev nD) {pend : Finset (Fin 38)} {b : Ref sig .tc} {V V' : St F} (h : Agree pend b V V') {k : Fin 38}
    (hk : k ∈ pend) : (D c V' k : sProp 𝕄) = D c V k := by
  unfold D
  rw [pointsTo_agree c (cpAt k).dst.view h fun i hi hf => mem_free.1 hf k hk (.inr ((mem_cells _ _).2 hi)),
    pointsTo_agree c (cpAt k).src.view h fun i hi hf => mem_free.1 hf k hk (.inl ((mem_cells _ _).2 hi))]

theorem semA_agree (c : Dev nD) {pend : Finset (Fin 38)} {b : Ref sig .tc} {V V' : St F} (h : Agree pend b V V') (k : Fin 38) :
    (semA c V' pend k : sProp 𝕄) = semA c V pend k := by
  unfold semA
  split
  · next hk => rw [D_agree c h hk]
  · rfl

theorem bufA_off (c : Dev nD) {pend : Finset (Fin 38)} {b : Ref sig .tc} {V V' : St F} (h : Agree pend b V V') {b' : Ref sig .tc}
    (hb : b' ≠ b) : (bufA c V' pend b' : sProp 𝕄) = bufA c V pend b' := by
  unfold bufA; rw [h.off b' hb]

/-- One factor out of a separating product. -/
theorem split_at {I : Type} [DecidableEq I] {s : Finset I} {i : I} (hi : i ∈ s) (Φ : I → sProp 𝕄) :
    bigSep s Φ = iprop(Φ i ∗ bigSep (s.erase i) Φ) := bigSep_erase hi

/-- Take one buffer's free elements out, and put them back at other contents. -/
theorem A_open (c : Dev nD) (V0 V : St F) (pend : Finset (Fin 38)) {b : Ref sig .tc} (hb : b ∈ refsU) :
    A c V0 V pend ⊢ iprop(bufA c V pend b ∗ ∀ V' : St F, ⌜Agree pend b V V'⌝ -∗ bufA c V' pend b -∗ A c V0 V' pend) := by
  unfold A
  rw [split_at hb]
  iintro ⟨%h0, ⟨Hb, Hr⟩, Hs, Ho⟩
  isplitl [Hb]; · iexact Hb
  iintro %V' %h Hb
  have e1 : bigSep (refsU.erase b) (bufA c V' pend) = (bigSep (refsU.erase b) (bufA c V pend) : sProp 𝕄) :=
    bigSep_congr fun b' hb' => bufA_off c h (Finset.ne_of_mem_erase hb')
  have e2 : bigSep Finset.univ (semA c V' pend) = (bigSep Finset.univ (semA c V pend) : sProp 𝕄) :=
    bigSep_congr fun k _ => semA_agree c h k
  rw [split_at hb, e1, e2]
  isplitr
  · ipureintro
    intro b' hb'
    by_cases hbb : b' = b
    · subst hbb; rw [h.held hb', h0 _ hb']
    · rw [h.off _ hbb, h0 _ hb']
  isplitl [Hb Hr]
  · isplitl [Hb] <;> iassumption
  isplitl [Hs] <;> iassumption

/-! ## The judgement -/

variable {defs : Defs nD τ sig (Elt F) Λ₀}

/-- `p` may be run with the copies of `pend` in flight, leaves those of `pend'` in flight, and computes what `W` says. -/
def Safe (defs : Defs nD τ sig (Elt F) Λ₀) (pend : Finset (Fin 38)) (p : P F α) (pend' : Finset (Fin 38)) : Prop :=
  ∀ (c : Dev nD) (V0 V : St F) (Φ : α → St F → Prop), W p Φ V →
    ∀ {β : Type} (k : α → P F β) (Q : β → sProp 𝕄),
      iprop(A c V0 V pend ∗ (∀ a V', ⌜Φ a V'⌝ -∗ A c V0 V' pend'
          -∗ wp frame (wpE defs Variants.none (c : Thread nD τ) none) Set.univ (k a) Q))
        ⊢ wp frame (wpE defs Variants.none (c : Thread nD τ) none) Set.univ (p >>= k) Q

theorem Safe_pure (pend : Finset (Fin 38)) (a : α) : Safe defs pend (pure a : P F α) pend := by
  intro c V0 V Φ h β k Q
  iintro ⟨HA, Hk⟩
  iapply Hk $$ %a %V %h HA

theorem Safe_bind {p1 p2 p3 : Finset (Fin 38)} {p : P F α} {f : α → P F β} (hp : Safe defs p1 p p2)
    (hf : ∀ a, Safe defs p2 (f a) p3) : Safe defs p1 (p >>= f) p3 := by
  intro c V0 V Φ h γ k Q
  rw [bind_assoc]
  rw [W_bind] at h
  refine .trans ?_ (hp c V0 V _ h _ Q)
  iintro ⟨HA, Hk⟩
  isplitl [HA]; · iexact HA
  iintro %a %V' %h' HA
  iapply (hf a c V0 V' _ h' k Q)
  isplitl [HA] <;> iassumption

theorem Safe_load {cs : CoreSpace} {s : Shape} {e : EltTy} {m : Memref sig .tc cs s e} {r : LoadRect s} {hl : m.view.LoadsAt r}
    {pend : Finset (Fin 38)} (hU : m.view.ref ∈ refsU) (hS : m.view.setOn r.set ⊆ free pend m.view.ref) :
    Safe defs pend (Prog.lift (.load m r hl) : P F _) pend := by
  intro c V0 V Φ h β k Q
  rw [Prog.bind_lift]
  iintro ⟨HA, Hk⟩
  ihave HA := (A_open c V0 V pend hU) $$ HA
  icases HA with ⟨Hb, Hc⟩
  iapply (wp_load (c := (c : Thread nD τ)) (q := fullShare) (f := V m.view.ref) Variants.none _ Set.univ hS) $$ [Hb]
  · iexact Hb
  iintro Hb
  ihave HA := Hc $$ %V %(Agree.refl pend _ V) Hb
  iapply Hk $$ %_ %V %h HA

theorem Safe_store {cs : CoreSpace} {s : Shape} {e : EltTy} {m : Memref sig .tc cs s e} {r : Rect s} {w : r.shape.Idx → Elt F e}
    {Mk : Finset r.shape.Idx} {hx : (m.access r).Stores Mk} {hm : Mk = Finset.univ ∨ ∀ a, r.stride a = 1}
    {pend : Finset (Fin 38)} (hU : m.view.ref ∈ refsU) (hH : m.view.ref ∉ refsH) (hS : (m.access r).setOn Mk ⊆ free pend m.view.ref) :
    Safe defs pend (Prog.lift (.store m r w Mk hx hm) : P F _) pend := by
  intro c V0 V Φ h β k Q
  rw [Prog.bind_lift]
  iintro ⟨HA, Hk⟩
  ihave HA := (A_open c V0 V pend hU) $$ HA
  icases HA with ⟨Hb, Hc⟩
  iapply (wp_store (c := (c : Thread nD τ)) (f := V m.view.ref) Variants.none _ Set.univ hS) $$ [Hb]
  · iexact Hb
  iintro Hb
  have hag : Agree pend m.view.ref V (setV V m.view.ref ((m.access r).write (Elt F) (V m.view.ref) w Mk)) :=
    ⟨fun b hb => Function.update_of_ne hb _ _,
     fun i hi => by
      rw [setV, Function.update_self]
      exact View.write_of_not_mem _ _ _ fun hi' => hi (hS hi'),
     fun hb => absurd hb hH⟩
  ihave HA := Hc $$ %_ %hag [Hb]
  · unfold bufA
    rw [setV, Function.update_self]
    iexact Hb
  iapply Hk $$ %_ %_ %h HA

theorem cpAt_credit (k : Fin 38) : 0 < (cpAt k).dst.view.dmaCredit := View.dmaCredit_pos _ (cpAt_numel k)

/-- What the core holds, the two buffers and the semaphore of copy `k` apart. -/
theorem A_at (c : Dev nD) (V0 V : St F) (pend : Finset (Fin 38)) (k : Fin 38) :
    A c V0 V pend = iprop(⌜∀ b ∈ refsH, V b = V0 b⌝
      ∗ (bufA c V pend (cpAt k).dst.view.ref ∗ bufA c V pend (cpAt k).src.view.ref
          ∗ bigSep ((refsU.erase (cpAt k).dst.view.ref).erase (cpAt k).src.view.ref) (bufA c V pend))
      ∗ (semA c V pend k ∗ bigSep (Finset.univ.erase k) (semA c V pend)) ∗ ∃ W, owes (c : Thread nD τ) 0 W) := by
  unfold A
  rw [split_at (cpAt_dst k), split_at (Finset.mem_erase.2 ⟨cpAt_ne k, cpAt_src k⟩), split_at (Finset.mem_univ k)]

theorem semA_ne (c : Dev nD) (V : St F) (pend : Finset (Fin 38)) {k k' : Fin 38} (h : k' ≠ k) :
    (semA c V (insert k pend) k' : sProp 𝕄) = semA c V pend k' := by
  unfold semA
  simp only [Finset.mem_insert, h, false_or]

theorem rest_insert (c : Dev nD) (V : St F) (pend : Finset (Fin 38)) (k : Fin 38) :
    bigSep ((refsU.erase (cpAt k).dst.view.ref).erase (cpAt k).src.view.ref) (bufA c V (insert k pend))
      = (bigSep ((refsU.erase (cpAt k).dst.view.ref).erase (cpAt k).src.view.ref) (bufA c V pend) : sProp 𝕄) :=
  bigSep_congr fun b hb => by
    have h1 := Finset.ne_of_mem_erase hb
    have h2 := Finset.ne_of_mem_erase (Finset.mem_of_mem_erase hb)
    unfold bufA
    rw [free_insert_of_ne pend k h1 h2]

theorem Safe_start' {pend : Finset (Fin 38)} (k : Fin 38) (hk : k ∉ pend)
    (hs : (cpAt k).src.view.set ⊆ free pend (cpAt k).src.view.ref) (hd : (cpAt k).dst.view.set ⊆ free pend (cpAt k).dst.view.ref) :
    Safe (F := F) defs pend (start (cpAt k)) (insert k pend) := by
  intro c V0 V Φ h β κ Q
  unfold start at h ⊢
  rw [Prog.bind_lift]
  have hne : (cpAt k).src.view.ref ∈ refsU.erase (cpAt k).dst.view.ref := Finset.mem_erase.2 ⟨cpAt_ne k, cpAt_src k⟩
  generalize hV' : setV V (cpAt k).dst.view.ref ((cpAt k).dst.view.write (Elt F) (V (cpAt k).dst.view.ref)
    (ReadAs.same.apply ((cpAt k).src.view.read (Elt F) (V (cpAt k).src.view.ref))) Finset.univ) = V'
  have hVd : V' (cpAt k).dst.view.ref = (cpAt k).dst.view.write (Elt F) (V (cpAt k).dst.view.ref)
    (ReadAs.same.apply ((cpAt k).src.view.read (Elt F) (V (cpAt k).src.view.ref))) Finset.univ := by
    rw [← hV', setV, Function.update_self]
  have hVo : ∀ b ≠ (cpAt k).dst.view.ref, V' b = V b := fun b hb => by rw [← hV', setV, Function.update_of_ne hb]
  have hVi : ∀ i ∉ (cpAt k).dst.view.set, V' (cpAt k).dst.view.ref i = V (cpAt k).dst.view.ref i := fun i hi => by
    rw [hVd]; exact View.write_of_not_mem _ _ _ hi
  have hag : Agree pend (cpAt k).dst.view.ref V V' :=
    ⟨hVo, fun i hi => hVi i fun h => hi (hd h), fun h => absurd h (cpAt_dstH k)⟩
  have h : Φ ⟨⟩ V' := by rw [← hV']; exact h
  have e2 : bigSep (Finset.univ.erase k) (semA c V' (insert k pend)) = (bigSep (Finset.univ.erase k) (semA c V pend) : sProp 𝕄) :=
    bigSep_congr fun k' hk' => by
      have h1 : (semA c V' (insert k pend) k' : sProp 𝕄) = semA c V' pend k' := by
        exact semA_ne c V' pend (Finset.ne_of_mem_erase hk')
      rw [h1, semA_agree c hag]
  have e1 : bigSep ((refsU.erase (cpAt k).dst.view.ref).erase (cpAt k).src.view.ref) (bufA c V' pend)
      = (bigSep ((refsU.erase (cpAt k).dst.view.ref).erase (cpAt k).src.view.ref) (bufA c V pend) : sProp 𝕄) :=
    bigSep_congr fun b hb => by
      unfold bufA
      rw [hVo b (Finset.ne_of_mem_erase (Finset.mem_of_mem_erase hb))]
  have s1 : (semA c V pend k : sProp 𝕄) = semVal ((c : Thread nD τ), .dma k) 0 := by unfold semA; rw [if_neg hk]
  have s2 : (semA c V' (insert k pend) k : sProp 𝕄) = Flight (countersEmb (U := Pipeline.UD sig nD τ)) (c : Thread nD τ) (.dma k) ()
      (cpAt k).dst.view.dmaCredit (D c V' k) := by unfold semA; rw [if_pos (Finset.mem_insert_self _ _)]
  have b1 : (bufA c V' (insert k pend) (cpAt k).dst.view.ref : sProp 𝕄)
      = ((cpAt k).dst.view.loc c ↦[free pend (cpAt k).dst.view.ref \ (cpAt k).dst.view.set]{fullShare} V (cpAt k).dst.view.ref) := by
    unfold bufA; rw [free_insert_dst]; exact pointsTo_congr fun i hi => hVi i (Finset.mem_sdiff.1 hi).2
  have b2 : (bufA c V' (insert k pend) (cpAt k).src.view.ref : sProp 𝕄)
      = ((cpAt k).src.view.loc c ↦[free pend (cpAt k).src.view.ref \ (cpAt k).src.view.set]{fullShare} V (cpAt k).src.view.ref) := by
    unfold bufA; rw [free_insert_src, hVo _ (cpAt_ne k)]
  have d1 : (D c V' k : sProp 𝕄) = iprop(((cpAt k).dst.view.loc c ↦[(cpAt k).dst.view.set]{fullShare} (cpAt k).dst.view.write (Elt F) (V (cpAt k).dst.view.ref)
    (ReadAs.same.apply ((cpAt k).src.view.read (Elt F) (V (cpAt k).src.view.ref))) Finset.univ)
      ∗ ((cpAt k).src.view.loc c ↦[(cpAt k).src.view.set]{fullShare} V (cpAt k).src.view.ref)) := by
    unfold D; rw [hVd, hVo _ (cpAt_ne k)]
  have hA := A_at c V0 V' (insert k pend) k
  rw [rest_insert, e1, e2, s2, b1, b2, d1] at hA
  rw [A_at c V0 V pend k, s1]
  iintro ⟨⟨%h0, ⟨Hd, Hs, Hr⟩, ⟨Hk, Hks⟩, Ho⟩, HK⟩
  ihave Hd := (pointsTo_split_subset hd).1 $$ Hd
  icases Hd with ⟨Hd, Hd'⟩
  ihave Hs := (pointsTo_split_subset hs).1 $$ Hs
  icases Hs with ⟨Hs, Hs'⟩
  iapply (wp_dmaLocal (countersEmb (U := Pipeline.UD sig nD τ)) (c := (c : Thread nD τ)) (q := fullShare)
    (fs := V (cpAt k).src.view.ref) (fd := V (cpAt k).dst.view.ref) Variants.none none () (cpAt k).dst.view.dmaCredit rfl
    (cpAt_credit k) (Finset.Subset.refl _)) $$ [Hs Hd Hk]
  · isplitl [Hs]; · iexact Hs
    isplitl [Hd]; · iexact Hd
    rw [cpAt_sem]; iexact Hk
  iintro HF
  iapply HK $$ %_ %V' %h [Hd' Hs' HF Hr Hks Ho]
  rw [hA]
  isplitr
  · ipureintro
    exact fun b hb => (hVo b fun hbd => cpAt_dstH k (hbd ▸ hb)).trans (h0 b hb)
  isplitl [Hd' Hs' Hr]
  · isplitl [Hd']; · iexact Hd'
    isplitl [Hs'] <;> iassumption
  isplitl [HF Hks]
  · isplitl [HF]
    · rw [cpAt_sem]; iexact HF
    · iexact Hks
  iexact Ho

theorem Safe_wait' {pend : Finset (Fin 38)} (k : Fin 38) (hk : k ∉ pend)
    (hs : (cpAt k).src.view.set ⊆ free pend (cpAt k).src.view.ref) (hd : (cpAt k).dst.view.set ⊆ free pend (cpAt k).dst.view.ref) :
    Safe (F := F) defs (insert k pend) (wait (cpAt k)) pend := by
  intro c V0 V Φ h β κ Q
  unfold wait at h ⊢
  rw [Prog.bind_lift]
  have e2 : bigSep (Finset.univ.erase k) (semA c V (insert k pend)) = (bigSep (Finset.univ.erase k) (semA c V pend) : sProp 𝕄) :=
    bigSep_congr fun k' hk' => semA_ne c V pend (Finset.ne_of_mem_erase hk')
  have s1 : (semA c V pend k : sProp 𝕄) = semVal ((c : Thread nD τ), .dma k) 0 := by unfold semA; rw [if_neg hk]
  have s2 : (semA c V (insert k pend) k : sProp 𝕄) = Flight (countersEmb (U := Pipeline.UD sig nD τ)) (c : Thread nD τ) (.dma k) ()
      (cpAt k).dst.view.dmaCredit (D c V k) := by unfold semA; rw [if_pos (Finset.mem_insert_self _ _)]
  have b1 : (bufA c V (insert k pend) (cpAt k).dst.view.ref : sProp 𝕄)
      = ((cpAt k).dst.view.loc c ↦[free pend (cpAt k).dst.view.ref \ (cpAt k).dst.view.set]{fullShare} V (cpAt k).dst.view.ref) := by
    unfold bufA; rw [free_insert_dst]
  have b2 : (bufA c V (insert k pend) (cpAt k).src.view.ref : sProp 𝕄)
      = ((cpAt k).src.view.loc c ↦[free pend (cpAt k).src.view.ref \ (cpAt k).src.view.set]{fullShare} V (cpAt k).src.view.ref) := by
    unfold bufA; rw [free_insert_src]
  rw [A_at c V0 V (insert k pend) k, s2, b1, b2, e2, rest_insert]
  iintro ⟨⟨%h0, ⟨Hd', Hs', Hr⟩, ⟨Hk, Hks⟩, ⟨%W, Ho⟩⟩, HK⟩
  iapply (wp_waitLocal (countersEmb (U := Pipeline.UD sig nD τ)) (c := (c : Thread nD τ)) Variants.none none () (N := (cpAt k).dst.view.dmaCredit) rfl
    (D := D c V k) (W := W)) $$ [Hk Ho]
  · isplitl [Hk]
    · rw [cpAt_sem]; iexact Hk
    · iexact Ho
  unfold D
  iintro ⟨⟨Hd, Hs⟩, Hk, Ho⟩
  ihave Hd := (pointsTo_split_subset (q := fullShare) (ℓ := (cpAt k).dst.view.loc c) (f := V (cpAt k).dst.view.ref) hd).2 $$ [Hd Hd']
  · isplitl [Hd] <;> iassumption
  ihave Hs := (pointsTo_split_subset (q := fullShare) (ℓ := (cpAt k).src.view.loc c) (f := V (cpAt k).src.view.ref) hs).2 $$ [Hs Hs']
  · isplitl [Hs] <;> iassumption
  iapply HK $$ %_ %V %h [Hd Hs Hk Hr Hks Ho]
  rw [A_at c V0 V pend k, s1]
  isplitr
  · ipureintro; exact h0
  isplitl [Hd Hs Hr]
  · isplitl [Hd]; · iexact Hd
    isplitl [Hs] <;> iassumption
  isplitl [Hk Hks]
  · isplitl [Hk]
    · rw [cpAt_sem]; iexact Hk
    · iexact Hks
  iexists _; iexact Ho

end Cert.Proof.Body
-- ==== Proof.Pieces.lean ====
/- Which pieces each copy and each access touches, so that an access beside copies in flight is checked on numbers. -/
module

public import proofs.«01_k».proof.Proof.Safe

@[expose] public section

noncomputable section

namespace Cert.Proof.Body

open Cert.KernelIdeal Cert.KernelIdeal.Gen
open Idealize.ShloMosaic Idealize.ShloMosaic.TcCoe
open Idealize.SL Idealize.SL.Sem

variable {F : FTy → Type} {α β : Type} {defs : Defs nD τ sig (Elt F) Λ₀}

/-! ## The pieces of a view -/

/-- The elements of a view lie in pieces of `K`. -/
def In {sp : Space} {s : Shape} {e : EltTy} (v : View sig .tc sp s e) (K : Finset ℕ) : Prop :=
  ∀ x ∈ cells v, code x.1 x.2 ∈ K

theorem In_slice {sp : Space} {s : Shape} {e : EltTy} {m : Memref sig .tc sp s e} {off sz : Fin s.rank → ℕ} {h : ∀ a, off a + sz a ≤ s.size a}
    {hs} {K : Finset ℕ}
    (hK : ∀ i : s.Idx, (∀ a, off a ≤ i a ∧ (i a : ℕ) < off a + sz a) → code m.view.ref (m.view.emb i) ∈ K) :
    In (m.slice (Rect.unit (s := s) off sz h) hs).view K := by
  rintro x ⟨j, hj, rfl⟩
  have hj' : j ∈ (m.view.slice (Rect.unit (s := s) off sz h)).set := hj
  rw [View.set_slice] at hj'
  obtain ⟨i, hi, rfl⟩ := Finset.mem_map.1 hj'
  exact hK i (Rect.mem_set_unit.1 hi)

theorem In_squeeze {sp : Space} {s s' : Shape} {e : EltTy} {m : Memref sig .tc sp s e} {hs} {K : Finset ℕ}
    (h : In m.view K) : In (m.squeeze s' hs).view K := by
  rintro x ⟨j, hj, rfl⟩
  have hj' : j ∈ (m.view.reshape s' (Shape.Squeezes.numel_eq hs)).set := hj
  rw [View.set_reshape] at hj'
  exact h _ ⟨j, hj', rfl⟩

theorem In_whole {b : Ref sig .tc} {K : Finset ℕ} (h : ∀ i, code b i ∈ K) : In (Memref.whole b : Memref sig .tc _ _ _).view K := by
  rintro x ⟨j, hj, rfl⟩
  exact h j

/-- No copy of `pend` touches a piece of `K`. -/
def Free (pend : Finset (Fin 38)) (K : Finset ℕ) : Prop := ∀ k ∈ pend, Disjoint (pcs k) K

instance (pend : Finset (Fin 38)) (K : Finset ℕ) : Decidable (Free pend K) := by unfold Free; infer_instance

theorem Free.mono {pend : Finset (Fin 38)} {K K' : Finset ℕ} (h : Free pend K) (hs : K' ⊆ K) : Free pend K' :=
  fun k hk => (h k hk).mono_right hs

/-! ## The pieces of the copies -/

theorem code_arg0 (i : main_arg0.ty.Idx) : code main_arg0 i = 100 + i 0 := rfl
theorem code_arg4 (i : main_arg4.ty.Idx) : code main_arg4 i = 200 + ((i 0 : ℕ) / 512 * 4 + (i 1 : ℕ) / 512) := rfl
theorem code_arg6 (i : main_arg6.ty.Idx) : code main_arg6 i = 300 + ((i 0 : ℕ) * 4 + (i 2 : ℕ) / 512) := rfl
theorem code_dx (i : main_v2_0.ty.Idx) : code main_v2_0 i = 400 + i 0 := rfl
theorem code_dw (i : main_v2_1.ty.Idx) : code main_v2_1 i = 500 + ((i 0 : ℕ) / 512 * 4 + (i 1 : ℕ) / 512) := rfl
theorem code_s0 (i : cc0_scratch0.ty.Idx) : code cc0_scratch0 i = 1100 + (i 0 : ℕ) / 512 := rfl
theorem code_s4 (i : cc0_scratch4.ty.Idx) : code cc0_scratch4 i = 1200 + ((i 0 : ℕ) / 512 * 4 + (i 1 : ℕ) / 512) := rfl
theorem code_s6 (i : cc0_scratch6.ty.Idx) : code cc0_scratch6 i = 1300 + ((i 0 : ℕ) / 512 * 4 + (i 1 : ℕ) / 512) := rfl
theorem code_s12 (i : cc0_scratch12.ty.Idx) : code cc0_scratch12 i = 1400 + i 0 := rfl
theorem code_s13 (i : cc0_scratch13.ty.Idx) : code cc0_scratch13 i = 1500 + i 0 := rfl

theorem lt2 {n0 n1 : ℕ} (i : (⟨2, ![n0, n1]⟩ : Shape).Idx) : (i 0 : ℕ) < n0 ∧ (i 1 : ℕ) < n1 := ⟨(i 0).2, (i 1).2⟩
theorem lt3 {n0 n1 n2 : ℕ} (i : (⟨3, ![n0, n1, n2]⟩ : Shape).Idx) : (i 0 : ℕ) < n0 ∧ (i 1 : ℕ) < n1 ∧ (i 2 : ℕ) < n2 :=
  ⟨(i 0).2, (i 1).2, (i 2).2⟩

theorem of_rect2 {n0 n1 s0 s1 a b : ℕ} {i : (⟨2, ![n0, n1]⟩ : Shape).Idx}
    (h : ∀ x, (![a, b] : Fin 2 → ℕ) x ≤ i x ∧ (i x : ℕ) < (![a, b] : Fin 2 → ℕ) x + (⟨2, ![s0, s1]⟩ : Shape).size x) :
    a ≤ i 0 ∧ (i 0 : ℕ) < a + s0 ∧ b ≤ i 1 ∧ (i 1 : ℕ) < b + s1 := ⟨(h 0).1, (h 0).2, (h 1).1, (h 1).2⟩
theorem of_rect3 {n0 n1 n2 s0 s1 s2 a b c : ℕ} {i : (⟨3, ![n0, n1, n2]⟩ : Shape).Idx}
    (h : ∀ x, (![a, b, c] : Fin 3 → ℕ) x ≤ i x ∧ (i x : ℕ) < (![a, b, c] : Fin 3 → ℕ) x + (⟨3, ![s0, s1, s2]⟩ : Shape).size x) :
    a ≤ i 0 ∧ (i 0 : ℕ) < a + s0 ∧ b ≤ i 1 ∧ (i 1 : ℕ) < b + s1 ∧ c ≤ i 2 ∧ (i 2 : ℕ) < c + s2 :=
  ⟨(h 0).1, (h 0).2, (h 1).1, (h 1).2, (h 2).1, (h 2).2⟩

theorem In.mono {sp : Space} {s : Shape} {e : EltTy} {v : View sig .tc sp s e} {K K' : Finset ℕ} (h : In v K) (hs : K ⊆ K') : In v K' :=
  fun x hx => hs (h x hx)

/-- Both ends of a copy lie in pieces of `K`. -/
def InCp (C : Cp) (K : Finset ℕ) : Prop := In C.src.view K ∧ In C.dst.view K

/-- Four pieces in a row, twice. -/
def four (a b : ℕ) : Finset ℕ := Finset.Icc a (a + 3) ∪ Finset.Icc b (b + 3)

theorem In_headW (c : ℕ) (hc : c < 4) : InCp (cpHeadW c hc) {200 + c, 1200 + c} := by
  constructor
  · refine In_slice (hs := fun _ => rfl) fun i h => ?_
    have h := of_rect2 h
    change 200 + ((i 0 : ℕ) / 512 * 4 + (i 1 : ℕ) / 512) ∈ _
    rw [show 200 + ((i 0 : ℕ) / 512 * 4 + (i 1 : ℕ) / 512) = 200 + c by omega]; simp
  · refine In_slice (hs := fun _ => rfl) fun i h => ?_
    have h := of_rect2 h
    change 1200 + ((i 0 : ℕ) / 512 * 4 + (i 1 : ℕ) / 512) ∈ _
    rw [show 1200 + ((i 0 : ℕ) / 512 * 4 + (i 1 : ℕ) / 512) = 1200 + c by omega]; simp

theorem In_headQ (c : ℕ) (hc : c < 4) : InCp (cpHeadQ c hc) {300 + c, 1300 + c} := by
  constructor
  · refine In_squeeze (hs := squeezes_S1x512x512_S512x512) (In_slice (hs := fun _ => rfl) fun i h => ?_)
    have h := of_rect3 h
    change 300 + ((i 0 : ℕ) * 4 + (i 2 : ℕ) / 512) ∈ _
    rw [show 300 + ((i 0 : ℕ) * 4 + (i 2 : ℕ) / 512) = 300 + c by omega]; simp
  · refine In_slice (hs := fun _ => rfl) fun i h => ?_
    have h := of_rect2 h
    change 1300 + ((i 0 : ℕ) / 512 * 4 + (i 1 : ℕ) / 512) ∈ _
    rw [show 1300 + ((i 0 : ℕ) / 512 * 4 + (i 1 : ℕ) / 512) = 1300 + c by omega]; simp

theorem In_W (p : ℕ) (h0 : 0 < p) (hp : p < 3) : InCp (cpW p h0 hp) (four (200 + 4 * p) (1200 + 4 * p)) := by
  constructor
  · refine In_slice (hs := fun _ => rfl) fun i h => ?_
    have h := of_rect2 h
    have := lt2 i
    change 200 + ((i 0 : ℕ) / 512 * 4 + (i 1 : ℕ) / 512) ∈ _
    simp only [four, Finset.mem_union, Finset.mem_Icc]; omega
  · refine In_slice (hs := fun _ => rfl) fun i h => ?_
    have h := of_rect2 h
    have := lt2 i
    change 1200 + ((i 0 : ℕ) / 512 * 4 + (i 1 : ℕ) / 512) ∈ _
    simp only [four, Finset.mem_union, Finset.mem_Icc]; omega

theorem In_Dq (b : ℕ) (h0 : 0 < b) (hb : b < 4) : InCp (cpDq b h0 hb) (four (300 + 4 * b) (1300 + 4 * b)) := by
  constructor
  · refine In_squeeze (hs := squeezes_S1x512x2048_S512x2048) (In_slice (hs := fun _ => rfl) fun i h => ?_)
    have h := of_rect3 h
    have := lt3 i
    change 300 + ((i 0 : ℕ) * 4 + (i 2 : ℕ) / 512) ∈ _
    simp only [four, Finset.mem_union, Finset.mem_Icc]; omega
  · refine In_slice (hs := fun _ => rfl) fun i h => ?_
    have h := of_rect2 h
    have := lt2 i
    change 1300 + ((i 0 : ℕ) / 512 * 4 + (i 1 : ℕ) / 512) ∈ _
    simp only [four, Finset.mem_union, Finset.mem_Icc]; omega

theorem In_X (b : ℕ) (hb : b < 4) : InCp (cpX b hb) {100 + b, 1100 + b} := by
  constructor
  · refine In_squeeze (hs := squeezes_S1x512x1536_S512x1536) (In_slice (hs := fun _ => rfl) fun i h => ?_)
    have h := of_rect3 h
    change 100 + (i 0 : ℕ) ∈ _
    rw [show 100 + (i 0 : ℕ) = 100 + b by omega]; simp
  · refine In_slice (hs := fun _ => rfl) fun i h => ?_
    have h := of_rect2 h
    change 1100 + (i 0 : ℕ) / 512 ∈ _
    rw [show 1100 + (i 0 : ℕ) / 512 = 1100 + b by omega]; simp

theorem In_Dx (b : ℕ) (hb : b < 4) : InCp (cpDx b hb) {400 + b, 1400 + b % 2} := by
  constructor
  · refine In_squeeze (hs := squeezes_S1x512x1536_S512x1536) (In_slice (hs := fun _ => rfl) fun i h => ?_)
    have h := of_rect3 h
    change 1400 + (i 0 : ℕ) ∈ _
    rw [show 1400 + (i 0 : ℕ) = 1400 + b % 2 by omega]; simp
  · refine In_squeeze (hs := squeezes_S1x512x1536_S512x1536) (In_slice (hs := fun _ => rfl) fun i h => ?_)
    have h := of_rect3 h
    change 400 + (i 0 : ℕ) ∈ _
    rw [show 400 + (i 0 : ℕ) = 400 + b by omega]; simp

theorem In_Dw (u : ℕ) (hu : u < 12) : InCp (cpDw u hu) {500 + u, 1500 + u % 3} := by
  constructor
  · refine In_squeeze (hs := squeezes_S1x512x512_S512x512) (In_slice (hs := fun _ => rfl) fun i h => ?_)
    have h := of_rect3 h
    change 1500 + (i 0 : ℕ) ∈ _
    rw [show 1500 + (i 0 : ℕ) = 1500 + u % 3 by omega]; simp
  · refine In_slice (hs := fun _ => rfl) fun i h => ?_
    have h := of_rect2 h
    change 500 + ((i 0 : ℕ) / 512 * 4 + (i 1 : ℕ) / 512) ∈ _
    rw [show 500 + ((i 0 : ℕ) / 512 * 4 + (i 1 : ℕ) / 512) = 500 + u by omega]; simp

theorem In_whole' {b b' : Ref sig .tc} {n n' : ℕ} (h : ∀ i, code b i = n) (h' : ∀ i, code b' i = n') :
    In (Memref.whole b : Memref sig .tc _ _ _).view {n, n'} ∧ In (Memref.whole b' : Memref sig .tc _ _ _).view {n, n'} :=
  ⟨In_whole fun i => by rw [h]; simp, In_whole fun i => by rw [h']; simp⟩

theorem In_small0 : InCp cpSmall0 {700, 1700} := In_whole' (b := main_v1) (b' := cc0_scratch5) (fun _ => rfl) fun _ => rfl
theorem In_small1 : InCp cpSmall1 {701, 1701} := In_whole' (b := main_v0) (b' := cc0_scratch3) (fun _ => rfl) fun _ => rfl
theorem In_small2 : InCp cpSmall2 {702, 1702} := In_whole' (b := main_arg2) (b' := cc0_scratch2) (fun _ => rfl) fun _ => rfl
theorem In_small3 : InCp cpSmall3 {703, 1703} := In_whole' (b := main_arg1) (b' := cc0_scratch1) (fun _ => rfl) fun _ => rfl
theorem In_Dg : InCp cpDg {600, 1600} :=
  (In_whole' (b := cc0_scratch14) (b' := main_v2_2) (n := 1600) (n' := 600) (fun _ => rfl) fun _ => rfl).imp
    (fun h => h.mono (by decide)) fun h => h.mono (by decide)

theorem InCp.mono {C : Cp} {K K' : Finset ℕ} (h : InCp C K) (hs : K ⊆ K') : InCp C K' := ⟨h.1.mono hs, h.2.mono hs⟩

theorem pcs_cp (k : Fin 38) : InCp (cpAt k) (pcs k) := by
  fin_cases k
  · exact In_headW 0 _
  · exact In_headQ 0 _
  · exact In_headW 1 _
  · exact In_headQ 1 _
  · exact In_headW 2 _
  · exact In_headQ 2 _
  · exact In_headW 3 _
  · exact In_headQ 3 _
  · exact (In_W 1 (by omega) (by omega)).mono (by decide)
  · exact (In_W 2 (by omega) (by omega)).mono (by decide)
  · exact In_X 0 _
  · exact In_X 1 _
  · exact In_X 2 _
  · exact In_X 3 _
  · exact (In_Dq 1 (by omega) (by omega)).mono (by decide)
  · exact (In_Dq 2 (by omega) (by omega)).mono (by decide)
  · exact (In_Dq 3 (by omega) (by omega)).mono (by decide)
  · exact In_small0
  · exact In_small1
  · exact In_small2
  · exact In_small3
  · exact In_Dx 0 _
  · exact In_Dx 1 _
  · exact In_Dx 2 _
  · exact In_Dx 3 _
  · exact In_Dw 0 _
  · exact In_Dw 1 _
  · exact In_Dw 2 _
  · exact In_Dw 3 _
  · exact In_Dw 4 _
  · exact In_Dw 5 _
  · exact In_Dw 6 _
  · exact In_Dw 7 _
  · exact In_Dw 8 _
  · exact In_Dw 9 _
  · exact In_Dw 10 _
  · exact In_Dw 11 _
  · exact In_Dg

/-! ## The rules, on pieces -/

theorem not_touched {pend : Finset (Fin 38)} {K : Finset ℕ} (hF : Free pend K) {x : Cell} (hx : code x.1 x.2 ∈ K) {k : Fin 38}
    (hk : k ∈ pend) : x ∉ touched k := fun h =>
  Finset.disjoint_left.1 (hF k hk) (h.elim ((pcs_cp k).1 x) ((pcs_cp k).2 x)) hx

theorem In.free {sp : Space} {s : Shape} {e : EltTy} {v : View sig .tc sp s e} {K : Finset ℕ} (h : In v K) {pend : Finset (Fin 38)}
    (hF : Free pend K) : v.set ⊆ free pend v.ref := fun i hi =>
  mem_free.2 fun _ hk => not_touched hF (h ⟨v.ref, i⟩ ((mem_cells v i).2 hi)) hk

theorem Safe_start {pend : Finset (Fin 38)} (k : Fin 38) {C : Cp} (hC : C = cpAt k) (hk : k ∉ pend ∧ Free pend (pcs k)) :
    Safe (F := F) defs pend (start C) (insert k pend) := by
  subst hC
  exact Safe_start' k hk.1 ((pcs_cp k).1.free hk.2) ((pcs_cp k).2.free hk.2)

theorem Safe_wait {pend : Finset (Fin 38)} (k : Fin 38) {C : Cp} (hC : C = cpAt k) (hk : k ∈ pend ∧ Free (pend.erase k) (pcs k)) :
    Safe (F := F) defs pend (wait C) (pend.erase k) := by
  subst hC
  have h := Safe_wait' (F := F) (defs := defs) (pend := pend.erase k) k (Finset.notMem_erase _ _) ((pcs_cp k).1.free hk.2) ((pcs_cp k).2.free hk.2)
  rwa [Finset.insert_erase hk.1] at h

section
variable {s : Shape} {e : EltTy} {m : Memref sig .tc .vmem s e} {off sz : Fin s.rank → ℕ} {h : ∀ a, off a + sz a ≤ s.size a}
  {K : Finset ℕ} {pend : Finset (Fin 38)}

theorem rect_free (hK : ∀ i : s.Idx, (∀ a, off a ≤ i a ∧ (i a : ℕ) < off a + sz a) → code m.view.ref (m.view.emb i) ∈ K)
    (hF : Free pend K) : m.view.setOn (Rect.unit (s := s) off sz h).set ⊆ free pend m.view.ref := fun i hi => by
  obtain ⟨j, hj, rfl⟩ := Finset.mem_map.1 hi
  exact mem_free.2 fun k hk => not_touched hF (x := ⟨m.view.ref, m.view.emb j⟩) (hK j (Rect.mem_set_unit.1 hj)) hk

theorem Safe_ld {hp} (hF : Free pend K)
    (hK : ∀ i : s.Idx, (∀ a, off a ≤ i a ∧ (i a : ℕ) < off a + sz a) → code m.view.ref (m.view.emb i) ∈ K) (hU : m.view.ref ∈ refsU) :
    Safe (F := F) defs pend (ld m off sz h hp) pend := Safe_load hU (rect_free hK hF)

theorem Safe_st32 {v hp he} (hF : Free pend K)
    (hK : ∀ i : s.Idx, (∀ a, off a ≤ i a ∧ (i a : ℕ) < off a + sz a) → code m.view.ref (m.view.emb i) ∈ K) (hU : m.view.ref ∈ refsU ∧ m.view.ref ∉ refsH) :
    Safe (F := F) defs pend (st32 m off sz h v hp he) pend :=
  Safe_store hU.1 hU.2 (by
    show (m.view.slice (Rect.unit (s := s) off sz h)).set ⊆ _
    rw [View.set_slice]
    exact rect_free hK hF)

theorem Safe_st16 {v hm hp hr} (hF : Free pend K)
    (hK : ∀ i : s.Idx, (∀ a, off a ≤ i a ∧ (i a : ℕ) < off a + sz a) → code m.view.ref (m.view.emb i) ∈ K) (hU : m.view.ref ∈ refsU ∧ m.view.ref ∉ refsH) :
    Safe (F := F) defs pend (st16 m hm off sz h v hp hr) pend :=
  Safe_store hU.1 hU.2 (by
    show (m.view.slice (Rect.unit (s := s) off sz h)).set ⊆ _
    rw [View.set_slice]
    exact rect_free hK hF)

end

theorem Safe_loop {pend : Finset (Fin 38)} {N : ℕ} {f : (i : ℕ) → i < N → P F PUnit} (hf : ∀ i h, Safe defs pend (f i h) pend) :
    ∀ k i h, Safe defs pend (loop N f k i h) pend
  | 0, _, _ => Safe_pure _ _
  | k + 1, i, _ => Safe_bind (hf i _) fun _ => Safe_loop hf k (i + 1) _

theorem Safe_forN {pend : Finset (Fin 38)} {N : ℕ} {f : (i : ℕ) → i < N → P F PUnit} (hf : ∀ i h, Safe defs pend (f i h) pend) :
    Safe defs pend (forN N f) pend := Safe_loop hf _ _ _

end Cert.Proof.Body
-- ==== Proof.Walk.lean ====
/- The body is safe: from no copy in flight to no copy in flight, every access beside copies of other pieces only. -/
module

public import proofs.«01_k».proof.Proof.Pieces

@[expose] public section

noncomputable section

namespace Cert.Proof.Body

open Cert.KernelIdeal Cert.KernelIdeal.Gen
open Idealize.ShloMosaic Idealize.ShloMosaic.TcCoe
open Idealize.SL Idealize.SL.Sem

variable {F : FTy → Type} [FloatOps F] {defs : Defs nD τ sig (Elt F) Λ₀} {pend : Finset (Fin 38)}

/-! ## The steps -/

theorem Safe_zeroDg (h : Free pend {1600}) : Safe (F := F) defs pend zeroDg pend :=
  Safe_bind (Safe_ld h (fun _ _ => Finset.mem_singleton_self 1600) (by decide)) fun _ =>
  Safe_st32 h (fun _ _ => Finset.mem_singleton_self 1600) (by decide)

theorem Safe_dequant (p c : ℕ) (hp : p < 3) (hc : c < 4) (h : Free pend {1200 + (p * 4 + c), 1700, 1801}) :
    Safe (F := F) defs pend (dequant p c hp hc) pend :=
  Safe_bind (Safe_ld h (fun i hi => by
      have hi := of_rect2 hi
      change 1200 + ((i 0 : ℕ) / 512 * 4 + (i 1 : ℕ) / 512) ∈ _
      rw [show 1200 + ((i 0 : ℕ) / 512 * 4 + (i 1 : ℕ) / 512) = 1200 + (p * 4 + c) by omega]; simp) (by decide)) fun _ =>
  Safe_bind (Safe_ld h (fun _ _ => show 1700 ∈ _ by simp) (by decide)) fun _ =>
  Safe_bind (Safe_ld h (fun _ _ => show 1801 ∈ _ by simp) (by decide)) fun _ =>
  Safe_st16 h (fun _ _ => show 1801 ∈ _ by simp) (by decide)

theorem Safe_dxhat (b p : ℕ) (hb : b < 4) (hp : p < 3) (h : Free pend ({1801, 1804} ∪ Finset.Icc (1300 + b * 4) (1303 + b * 4))) :
    Safe (F := F) defs pend (dxhat b p hb hp) pend :=
  Safe_bind (Safe_ld h (fun i hi => by
      have hi := of_rect2 hi
      have := lt2 i
      change 1300 + ((i 0 : ℕ) / 512 * 4 + (i 1 : ℕ) / 512) ∈ _
      rw [Finset.mem_union, Finset.mem_Icc]; right; omega) (by decide)) fun _ =>
  Safe_bind (Safe_ld h (fun _ _ => show 1801 ∈ _ by simp) (by decide)) fun _ =>
  Safe_bind (Safe_ld h (fun _ _ => show 1804 ∈ _ by simp) (by decide)) fun _ =>
  Safe_st32 h (fun _ _ => show 1804 ∈ _ by simp) (by decide)

/-- What batch `b`'s preparation touches. -/
def prepK (b : ℕ) : Finset ℕ := {1100 + b, 1701, 1702, 1703, 1802, 1803, 1805}

theorem Safe_tile (b : ℕ) (hb : b < 4) (r : ℕ) (hr : r < 4) (sc : FVec F S128x12 .f32) (j : ℕ) (hj : j < 12) (h : Free pend (prepK b)) :
    Safe (F := F) defs pend (tile b hb r hr sc j hj) pend :=
  Safe_bind
    (Safe_bind (Safe_ld h (fun i hi => by
        have hi := of_rect2 hi
        change 1100 + (i 0 : ℕ) / 512 ∈ _
        rw [show 1100 + (i 0 : ℕ) / 512 = 1100 + b by omega]; simp [prepK]) (by decide)) fun _ =>
      Safe_bind (Safe_ld h (fun _ _ => show 1803 ∈ _ by simp [prepK]) (by decide)) fun _ =>
      Safe_bind (Safe_st32 h (fun _ _ => show 1803 ∈ _ by simp [prepK]) (by decide)) fun _ =>
      Safe_bind (Safe_ld h (fun _ _ => show 1701 ∈ _ by simp [prepK]) (by decide)) fun _ => Safe_pure _ _) fun _ =>
  Safe_bind (Safe_ld h (fun _ _ => show 1802 ∈ _ by simp [prepK]) (by decide)) fun _ =>
  Safe_st16 h (fun _ _ => show 1802 ∈ _ by simp [prepK]) (by decide)

theorem Safe_prep (b : ℕ) (hb : b < 4) (h : Free pend (prepK b)) : Safe (F := F) defs pend (prep b hb) pend :=
  Safe_bind
    (Safe_forN fun r hr =>
      Safe_bind (Safe_ld h (fun _ _ => show 1702 ∈ _ by simp [prepK]) (by decide)) fun _ =>
      Safe_bind (Safe_ld h (fun _ _ => show 1805 ∈ _ by simp [prepK]) (by decide)) fun _ =>
      Safe_st32 h (fun _ _ => show 1805 ∈ _ by simp [prepK]) (by decide)) fun _ =>
  Safe_forN fun r hr =>
    Safe_bind
      (Safe_bind (Safe_ld h (fun _ _ => show 1703 ∈ _ by simp [prepK]) (by decide)) fun _ =>
        Safe_bind (Safe_ld h (fun _ _ => show 1805 ∈ _ by simp [prepK]) (by decide)) fun _ => Safe_pure _ _) fun sc =>
    Safe_forN fun j hj => Safe_tile b hb r hr sc j hj h

/-- What batch `b`'s backward normalization touches. -/
def normK (b : ℕ) : Finset ℕ := {1400 + b % 2, 1600, 1701, 1803, 1804, 1805}

theorem Safe_norm (invd : F .f32) (b : ℕ) (hb : b < 4) (h : Free pend (normK b)) : Safe (F := F) defs pend (norm invd b hb) pend :=
  have h12 : ∀ {K : ℕ} {i : cc0_scratch12.ty.Idx}, K ≤ i 0 ∧ (i 0 : ℕ) < K + 1 → K = b % 2 → 1400 + (i 0 : ℕ) ∈ normK b := fun hi hK => by
    rw [show 1400 + _ = 1400 + b % 2 from by omega]; simp [normK]
  Safe_bind (Safe_ld h (fun _ _ => show 1701 ∈ _ by simp [normK]) (by decide)) fun _ =>
  Safe_forN fun r hr =>
    Safe_bind
      (Safe_bind (Safe_ld h (fun _ _ => show 1803 ∈ _ by simp [normK]) (by decide)) fun _ =>
        Safe_bind (Safe_ld h (fun _ _ => show 1804 ∈ _ by simp [normK]) (by decide)) fun _ =>
        Safe_bind (Safe_ld h (fun _ _ => show 1600 ∈ _ by simp [normK]) (by decide)) fun _ =>
        Safe_bind (Safe_ld h (fun _ _ => show 1600 ∈ _ by simp [normK]) (by decide)) fun _ => Safe_pure _ _) fun _ =>
    Safe_bind (Safe_st32 h (fun _ _ => show 1600 ∈ _ by simp [normK]) (by decide)) fun _ =>
    Safe_bind (Safe_ld h (fun _ _ => show 1805 ∈ _ by simp [normK]) (by decide)) fun _ =>
    Safe_bind (Safe_ld h (fun i hi => h12 (i := i) (hi 0) rfl) (by decide)) fun _ =>
    Safe_st16 h (fun i hi => h12 (i := i) (hi 0) rfl) (by decide)

theorem Safe_dwUnit (u : ℕ) (hu : u < 12) (h : Free pend ({1802, 1500 + u % 3} ∪ Finset.Icc 1300 1315)) :
    Safe (F := F) defs pend (dwUnit u hu) pend :=
  have h13 : ∀ {i : cc0_scratch13.ty.Idx}, u % 3 ≤ i 0 ∧ (i 0 : ℕ) < u % 3 + 1 →
      1500 + (i 0 : ℕ) ∈ ({1802, 1500 + u % 3} ∪ Finset.Icc 1300 1315 : Finset ℕ) := fun hi => by
    rw [Finset.mem_union]; left; simp; omega
  Safe_bind (Safe_ld h (fun _ _ => show 1802 ∈ _ by simp) (by decide)) fun _ =>
  Safe_bind (Safe_ld h (fun i hi => by
      have hi := of_rect2 hi
      have := lt2 i
      change 1300 + ((i 0 : ℕ) / 512 * 4 + (i 1 : ℕ) / 512) ∈ _
      rw [Finset.mem_union, Finset.mem_Icc]; right; omega) (by decide)) fun _ =>
  Safe_bind (Safe_ld h (fun i hi => h13 (i := i) (hi 0)) (by decide)) fun _ =>
  Safe_st32 h (fun i hi => h13 (i := i) (hi 0)) (by decide)

/-! ## The whole body -/

theorem Safe_eq {α : Type} {p : P F α} {q q' : Finset (Fin 38)} (h : Safe defs pend p q) (hq : q = q') : Safe defs pend p q' := hq ▸ h

theorem Safe_nil {N : ℕ} {f : (i : ℕ) → i < N → P F PUnit} {i : ℕ} {h} : Safe defs pend (loop N f 0 i h) pend := Safe_pure _ _

/-- Every copy in. -/
def P0 : Finset (Fin 38) := {0, 1, 2, 3, 4, 5, 6, 7, 8, 9, 10, 11, 12, 13, 14, 15, 16, 17, 18, 19, 20}

theorem Safe_startIn : Safe (F := F) defs ∅ startIn P0 :=
  Safe_eq (
  Safe_bind (Safe_start 17 rfl (by decide)) fun _ =>
  Safe_bind (Safe_bind (Safe_bind (Safe_start 0 rfl (by decide)) fun _ => Safe_start 1 rfl (by decide)) fun _ => Safe_bind (Safe_bind (Safe_start 2 rfl (by decide)) fun _ => Safe_start 3 rfl (by decide)) fun _ => Safe_bind (Safe_bind (Safe_start 4 rfl (by decide)) fun _ => Safe_start 5 rfl (by decide)) fun _ => Safe_bind (Safe_bind (Safe_start 6 rfl (by decide)) fun _ => Safe_start 7 rfl (by decide)) fun _ => Safe_nil) fun _ =>
  Safe_bind (Safe_start 18 rfl (by decide)) fun _ =>
  Safe_bind (Safe_start 19 rfl (by decide)) fun _ =>
  Safe_bind (Safe_start 8 rfl (by decide)) fun _ =>
  Safe_bind (Safe_start 9 rfl (by decide)) fun _ =>
  Safe_bind (Safe_start 20 rfl (by decide)) fun _ =>
  Safe_bind (Safe_start 10 rfl (by decide)) fun _ =>
  Safe_bind (Safe_bind (Safe_start 14 rfl (by decide)) fun _ => Safe_start 11 rfl (by decide)) fun _ => Safe_bind (Safe_bind (Safe_start 15 rfl (by decide)) fun _ => Safe_start 12 rfl (by decide)) fun _ => Safe_bind (Safe_bind (Safe_start 16 rfl (by decide)) fun _ => Safe_start 13 rfl (by decide)) fun _ => Safe_nil
  ) (by decide)

theorem Safe_first : Safe (F := F) defs P0 first {10, 11, 12, 13, 14, 15, 16, 18, 19, 20} :=
  Safe_eq (
  Safe_bind (Safe_wait 17 rfl (by decide)) fun _ =>
  Safe_bind (Safe_zeroDg (by decide)) fun _ =>
  Safe_bind (Safe_bind (Safe_bind (Safe_wait 0 rfl (by decide)) fun _ => Safe_bind (Safe_wait 1 rfl (by decide)) fun _ => Safe_dequant _ _ _ _ (by decide)) fun _ => Safe_bind (Safe_bind (Safe_wait 2 rfl (by decide)) fun _ => Safe_bind (Safe_wait 3 rfl (by decide)) fun _ => Safe_dequant _ _ _ _ (by decide)) fun _ => Safe_bind (Safe_bind (Safe_wait 4 rfl (by decide)) fun _ => Safe_bind (Safe_wait 5 rfl (by decide)) fun _ => Safe_dequant _ _ _ _ (by decide)) fun _ => Safe_bind (Safe_bind (Safe_wait 6 rfl (by decide)) fun _ => Safe_bind (Safe_wait 7 rfl (by decide)) fun _ => Safe_dequant _ _ _ _ (by decide)) fun _ => Safe_nil) fun _ =>
  Safe_bind (Safe_dxhat _ _ _ _ (by decide)) fun _ =>
  Safe_bind (Safe_bind (Safe_wait 8 rfl (by decide)) fun _ => Safe_bind (Safe_bind (Safe_dequant _ _ _ _ (by decide)) fun _ => Safe_bind (Safe_dequant _ _ _ _ (by decide)) fun _ => Safe_bind (Safe_dequant _ _ _ _ (by decide)) fun _ => Safe_bind (Safe_dequant _ _ _ _ (by decide)) fun _ => Safe_nil) fun _ => Safe_dxhat _ _ _ _ (by decide)) fun _ => Safe_bind (Safe_bind (Safe_wait 9 rfl (by decide)) fun _ => Safe_bind (Safe_bind (Safe_dequant _ _ _ _ (by decide)) fun _ => Safe_bind (Safe_dequant _ _ _ _ (by decide)) fun _ => Safe_bind (Safe_dequant _ _ _ _ (by decide)) fun _ => Safe_bind (Safe_dequant _ _ _ _ (by decide)) fun _ => Safe_nil) fun _ => Safe_dxhat _ _ _ _ (by decide)) fun _ => Safe_nil
  ) (by decide)

theorem Safe_waitIn : Safe (F := F) defs {10, 11, 12, 13, 14, 15, 16, 18, 19, 20} waitIn {11, 12, 13, 14, 15, 16} :=
  Safe_eq (
  Safe_bind (Safe_wait 18 rfl (by decide)) fun _ =>
  Safe_bind (Safe_wait 19 rfl (by decide)) fun _ =>
  Safe_bind (Safe_wait 20 rfl (by decide)) fun _ =>
  Safe_wait 10 rfl (by decide)
  ) (by decide)

theorem Safe_batch0 (invd : F .f32) : Safe defs {11, 12, 13, 14, 15, 16} (batch invd 0 (by omega) (pure ⟨⟩)) {12, 13, 15, 16, 21} :=
  Safe_eq (
  Safe_bind (Safe_wait 14 rfl (by decide)) fun _ =>
  Safe_bind (Safe_wait 11 rfl (by decide)) fun _ =>
  Safe_bind (Safe_pure _ _) fun _ =>
  Safe_bind (Safe_prep _ _ (by decide)) fun _ =>
  Safe_bind (Safe_forN fun _ _ => Safe_dxhat _ _ _ _ (by decide)) fun _ =>
  Safe_bind (Safe_norm _ _ _ (by decide)) fun _ =>
  Safe_start 21 rfl (by decide)
  ) (by decide)

theorem Safe_batch1 (invd : F .f32) : Safe defs {12, 13, 15, 16, 21} (batch invd 1 (by omega) (pure ⟨⟩)) {13, 16, 21, 22} :=
  Safe_eq (
  Safe_bind (Safe_wait 15 rfl (by decide)) fun _ =>
  Safe_bind (Safe_wait 12 rfl (by decide)) fun _ =>
  Safe_bind (Safe_pure _ _) fun _ =>
  Safe_bind (Safe_prep _ _ (by decide)) fun _ =>
  Safe_bind (Safe_forN fun _ _ => Safe_dxhat _ _ _ _ (by decide)) fun _ =>
  Safe_bind (Safe_norm _ _ _ (by decide)) fun _ =>
  Safe_start 22 rfl (by decide)
  ) (by decide)

theorem Safe_batch2 (invd : F .f32) : Safe defs {13, 16, 21, 22} (batch invd 2 (by omega) (wait (cpDx 0 (by omega)))) {22, 23} :=
  Safe_eq (
  Safe_bind (Safe_wait 16 rfl (by decide)) fun _ =>
  Safe_bind (Safe_wait 13 rfl (by decide)) fun _ =>
  Safe_bind (Safe_wait 21 rfl (by decide)) fun _ =>
  Safe_bind (Safe_prep _ _ (by decide)) fun _ =>
  Safe_bind (Safe_forN fun _ _ => Safe_dxhat _ _ _ _ (by decide)) fun _ =>
  Safe_bind (Safe_norm _ _ _ (by decide)) fun _ =>
  Safe_start 23 rfl (by decide)
  ) (by decide)

theorem Safe_last (invd : F .f32) : Safe defs {22, 23} (last invd) ∅ :=
  Safe_eq (
  Safe_bind (Safe_prep _ _ (by decide)) fun _ =>
  Safe_bind (Safe_wait 22 rfl (by decide)) fun _ =>
  Safe_bind (Safe_dwUnit _ _ (by decide)) fun _ =>
  Safe_bind (Safe_norm _ _ _ (by decide)) fun _ =>
  Safe_bind (Safe_start 24 rfl (by decide)) fun _ =>
  Safe_bind (Safe_start 37 rfl (by decide)) fun _ =>
  Safe_bind (Safe_start 25 rfl (by decide)) fun _ =>
  Safe_bind (Safe_bind (Safe_bind (Safe_dwUnit _ _ (by decide)) fun _ => Safe_start 26 rfl (by decide)) fun _ => Safe_bind (Safe_bind (Safe_dwUnit _ _ (by decide)) fun _ => Safe_start 27 rfl (by decide)) fun _ => Safe_nil) fun _ =>
  Safe_bind (Safe_bind (Safe_bind (Safe_wait 25 rfl (by decide)) fun _ => Safe_bind (Safe_dwUnit _ _ (by decide)) fun _ => Safe_start 28 rfl (by decide)) fun _ => Safe_bind (Safe_bind (Safe_wait 26 rfl (by decide)) fun _ => Safe_bind (Safe_dwUnit _ _ (by decide)) fun _ => Safe_start 29 rfl (by decide)) fun _ => Safe_bind (Safe_bind (Safe_wait 27 rfl (by decide)) fun _ => Safe_bind (Safe_dwUnit _ _ (by decide)) fun _ => Safe_start 30 rfl (by decide)) fun _ => Safe_bind (Safe_bind (Safe_wait 28 rfl (by decide)) fun _ => Safe_bind (Safe_dwUnit _ _ (by decide)) fun _ => Safe_start 31 rfl (by decide)) fun _ => Safe_bind (Safe_bind (Safe_wait 29 rfl (by decide)) fun _ => Safe_bind (Safe_dwUnit _ _ (by decide)) fun _ => Safe_start 32 rfl (by decide)) fun _ => Safe_bind (Safe_bind (Safe_wait 30 rfl (by decide)) fun _ => Safe_bind (Safe_dwUnit _ _ (by decide)) fun _ => Safe_start 33 rfl (by decide)) fun _ => Safe_bind (Safe_bind (Safe_wait 31 rfl (by decide)) fun _ => Safe_bind (Safe_dwUnit _ _ (by decide)) fun _ => Safe_start 34 rfl (by decide)) fun _ => Safe_bind (Safe_bind (Safe_wait 32 rfl (by decide)) fun _ => Safe_bind (Safe_dwUnit _ _ (by decide)) fun _ => Safe_start 35 rfl (by decide)) fun _ => Safe_bind (Safe_bind (Safe_wait 33 rfl (by decide)) fun _ => Safe_bind (Safe_dwUnit _ _ (by decide)) fun _ => Safe_start 36 rfl (by decide)) fun _ => Safe_nil) fun _ =>
  Safe_bind (Safe_wait 23 rfl (by decide)) fun _ =>
  Safe_bind (Safe_wait 24 rfl (by decide)) fun _ =>
  Safe_bind (Safe_wait 37 rfl (by decide)) fun _ =>
  Safe_bind (Safe_wait 34 rfl (by decide)) fun _ => Safe_bind (Safe_wait 35 rfl (by decide)) fun _ => Safe_bind (Safe_wait 36 rfl (by decide)) fun _ => Safe_nil
  ) (by decide)

theorem Safe_body (invd : F .f32) : Safe defs ∅ (body invd) ∅ :=
  Safe_bind Safe_startIn fun _ => Safe_bind Safe_first fun _ => Safe_bind Safe_waitIn fun _ =>
  Safe_bind (Safe_batch0 invd) fun _ => Safe_bind (Safe_batch1 invd) fun _ => Safe_bind (Safe_batch2 invd) fun _ => Safe_last invd

end Cert.Proof.Body
-- ==== Proof.Launch.lean ====
/- The body from what the launch hands it: every buffer and semaphore in, and out again. -/
module

public import proofs.«01_k».proof.Proof.Walk
public import proofs.«01_k».proof.Proof.Gen.KernelIdeal.Launch
public import Idealize.ShloMosaic.Lib.Pipeline.FrameValue

@[expose] public section

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The results. -/
def refsR : Finset (Ref sig .tc) := {main_v2_0, main_v2_1, main_v2_2}

/-- The scratch buffers. -/
def refsS : Finset (Ref sig .tc) :=
  {cc0_scratch0, cc0_scratch1, cc0_scratch2, cc0_scratch3, cc0_scratch4, cc0_scratch5, cc0_scratch6, cc0_scratch7,
   cc0_scratch8, cc0_scratch9, cc0_scratch10, cc0_scratch11, cc0_scratch12, cc0_scratch13, cc0_scratch14}

theorem refsU_eq : refsU = refsS ∪ (refsR ∪ refsH) := by decide
theorem disj1 : Disjoint refsS (refsR ∪ refsH) := by decide
theorem disj2 : Disjoint refsR refsH := by decide

/-- A buffer whole. -/
abbrev bufW (c : Dev nD) (V : St F) (b : Ref sig .tc) : sProp 𝕄 := iprop((c : Thread nD τ).loc b ↦{fullShare} V b)

/-- A buffer whole, at some contents. -/
abbrev bufE (c : Dev nD) (b : Ref sig .tc) : sProp 𝕄 :=
  iprop(∃ f : Buf (Elt F) ((c : Thread nD τ).loc b), (c : Thread nD τ).loc b ↦{fullShare} f)

/-- Every copy's semaphore at zero. -/
abbrev sems0 (c : Dev nD) : sProp 𝕄 := bigSep Finset.univ fun k : Fin 38 => semVal ((c : Thread nD τ), .dma k) 0

/-- What the body is run from. -/
def Pre (c : Dev nD) (V0 : St F) : sProp 𝕄 :=
  iprop(bigSep refsS (bufE c) ∗ sems0 c ∗ bigSep refsH (bufW c V0) ∗ bigSep refsR (bufE c) ∗ ∃ W, owes (c : Thread nD τ) 0 W)

/-- What it returns, its results as `Φ` says. -/
def Post (c : Dev nD) (V0 : St F) (Φ : St F → Prop) : sProp 𝕄 :=
  iprop(∃ V' : St F, ⌜Φ V'⌝ ∗ bigSep refsS (bufE c) ∗ sems0 c ∗ bigSep refsH (bufW c V0) ∗ bigSep refsR (bufW c V')
    ∗ ∃ W, owes (c : Thread nD τ) 0 W)

theorem bufA_empty (c : Dev nD) (V : St F) : (bufA c V ∅ : Ref sig .tc → sProp 𝕄) = bufW c V := by
  funext b; unfold bufA; rw [free_empty]

theorem semA_empty (c : Dev nD) (V : St F) : (bigSep Finset.univ (semA c V ∅) : sProp 𝕄) = sems0 c :=
  bigSep_congr fun k _ => by unfold semA; simp

theorem bufE_intro (c : Dev nD) (V : St F) (s : Finset (Ref sig .tc)) : bigSep s (bufW c V) ⊢ (bigSep s (bufE c) : sProp 𝕄) :=
  Pipeline.owned_intro s c V

/-- One choice of contents for the buffers of `s`. -/
theorem bufE_choose [∀ e, Nonempty (Elt F e)] (c : Dev nD) (s : Finset (Ref sig .tc)) :
    bigSep s (bufE c) ⊢ (iprop(∃ V : St F, bigSep s (bufW c V)) : sProp 𝕄) :=
  bigSep_exists_pi s fun b (f : Buf (Elt F) ((c : Thread nD τ).loc b)) => iprop((c : Thread nD τ).loc b ↦{fullShare} f)

theorem bigSep_swap (c : Dev nD) {V V' : St F} {s : Finset (Ref sig .tc)} (h : ∀ b ∈ s, V b = V' b) :
    (bigSep s (bufW c V) : sProp 𝕄) = bigSep s (bufW c V') :=
  bigSep_congr fun b hb => by unfold bufW; rw [h b hb]

theorem refsU_split (c : Dev nD) (V : St F) :
    (bigSep refsU (bufW c V) : sProp 𝕄) = iprop(bigSep refsS (bufW c V) ∗ bigSep refsR (bufW c V) ∗ bigSep refsH (bufW c V)) := by
  rw [refsU_eq, bigSep_union disj1, bigSep_union disj2]; rfl

theorem A_of (c : Dev nD) (V0 V : St F) (h : ∀ b ∈ refsH, V b = V0 b) :
    iprop(bigSep refsS (bufW c V) ∗ bigSep refsR (bufW c V) ∗ bigSep refsH (bufW c V) ∗ sems0 c ∗ ∃ W, owes (c : Thread nD τ) 0 W)
      ⊢ (iprop(⌜∀ b ∈ refsH, V b = V0 b⌝ ∗ A c V0 V ∅) : sProp 𝕄) := by
  unfold A
  rw [bufA_empty, semA_empty, refsU_split]
  iintro ⟨HS, HR, HH, Hs, Ho⟩
  isplitr
  · ipureintro; exact h
  isplitr
  · ipureintro; exact h
  isplitl [HS HR HH]
  · isplitl [HS]; · iexact HS
    isplitl [HR]; · iexact HR
    iexact HH
  isplitl [Hs]; · iexact Hs
  iexact Ho

theorem A_in [∀ e, Nonempty (Elt F e)] (c : Dev nD) (V0 : St F) :
    Pre c V0 ⊢ (iprop(∃ V : St F, ⌜∀ b ∈ refsH, V b = V0 b⌝ ∗ A c V0 V ∅) : sProp 𝕄) := by
  unfold Pre
  iintro ⟨HS, Hs, HH, HR, Ho⟩
  icases bufE_choose c refsS $$ HS with ⟨%VS, HS⟩
  icases bufE_choose c refsR $$ HR with ⟨%VR, HR⟩
  let V : St F := fun b => if b ∈ refsH then V0 b else if b ∈ refsR then VR b else VS b
  have hH : ∀ b ∈ refsH, V0 b = V b := fun b hb => by simp [V, hb]
  have hR : ∀ b ∈ refsR, VR b = V b := fun b hb => by
    have : b ∉ refsH := Finset.disjoint_left.1 disj2 hb
    simp [V, hb, this]
  have hS : ∀ b ∈ refsS, VS b = V b := fun b hb => by
    have := Finset.disjoint_left.1 disj1 hb
    simp only [Finset.mem_union, not_or] at this
    simp [V, this.1, this.2]
  iexists V
  iapply (A_of c V0 V fun b hb => (hH b hb).symm)
  isplitl [HS]; · iapply (Entails.of_eq (bigSep_swap c hS)); iexact HS
  isplitl [HR]; · iapply (Entails.of_eq (bigSep_swap c hR)); iexact HR
  isplitl [HH]; · iapply (Entails.of_eq (bigSep_swap c hH)); iexact HH
  isplitl [Hs]; · iexact Hs
  iexact Ho

theorem A_out (c : Dev nD) (V0 V : St F) (Φ : St F → Prop) (h : Φ V) : A c V0 V ∅ ⊢ (Post c V0 Φ : sProp 𝕄) := by
  unfold A Post
  rw [bufA_empty, semA_empty, refsU_split]
  iintro ⟨%hH, ⟨HS, HR, HH⟩, Hs, Ho⟩
  iexists V
  isplitr
  · ipureintro; exact h
  isplitl [HS]; · iapply (bufE_intro c V refsS); iexact HS
  isplitl [Hs]; · iexact Hs
  isplitl [HH]; · iapply (Entails.of_eq (bigSep_swap c hH)); iexact HH
  isplitl [HR]; · iexact HR
  iexact Ho

theorem safe_apply {defs : Defs nD τ sig (Elt F) Λ₀} {α : Type} {pend pend' : Finset (Fin 38)} {p : P F α} (h : Safe defs pend p pend')
    (c : Dev nD) (V0 V : St F) (Φ : α → St F → Prop) (hW : W p Φ V) {β : Type} (k : α → P F β) (Q : β → sProp 𝕄) :
    iprop(A c V0 V pend ∗ (∀ a V', ⌜Φ a V'⌝ -∗ A c V0 V' pend' -∗ wp frame (wpE defs Variants.none (c : Thread nD τ) none) Set.univ (k a) Q))
      ⊢ (wp frame (wpE defs Variants.none (c : Thread nD τ) none) Set.univ (p >>= k) Q : sProp 𝕄) := h c V0 V Φ hW k Q

theorem ret_intro {defs : Defs nD τ sig (Elt F) Λ₀} (c : Dev nD) (Q : sProp 𝕄) (a : PUnit) :
    Q ⊢ (wp frame (wpE defs Variants.none (c : Thread nD τ) none) Set.univ (pure a : P F PUnit) (fun _ => Q) : sProp 𝕄) := by
  rw [show (pure a : P F PUnit) = .ret a from rfl, wp_ret]; exact fupd_intro

theorem run_prog {defs : Defs nD τ sig (Elt F) Λ₀} [∀ e, Nonempty (Elt F e)] {p : P F PUnit} (hp : Safe defs ∅ p ∅) (c : Dev nD) (V0 : St F)
    (Φ : St F → Prop) (h : ∀ V : St F, (∀ b ∈ refsH, V b = V0 b) → W p (fun _ V' => Φ V') V) :
    Pre c V0 ⊢ (wp frame (wpE defs Variants.none (c : Thread nD τ) none) Set.univ p (fun _ => Post c V0 Φ) : sProp 𝕄) := by
  refine (A_in c V0).trans ?_
  rw [← bind_pure p]
  iintro ⟨%V, %hV, HA⟩
  iapply (safe_apply hp c V0 V _ (h V hV) pure (fun _ => Post c V0 Φ))
  isplitl [HA]; · iexact HA
  iintro %a %V' %hΦ HA
  iapply (ret_intro c (Post c V0 Φ) a)
  iapply (A_out c V0 V' Φ hΦ); iexact HA

theorem run_body {defs : Defs nD τ sig (Elt F) Λ₀} [∀ e, Nonempty (Elt F e)] (invd : F .f32) (c : Dev nD) (V0 : St F) (Φ : St F → Prop)
    (h : ∀ V : St F, (∀ b ∈ refsH, V b = V0 b) → W (body invd) (fun _ V' => Φ V') V) :
    Pre c V0 ⊢ (wp frame (wpE defs Variants.none (c : Thread nD τ) none) Set.univ (body invd) (fun _ => Post c V0 Φ) : sProp 𝕄) :=
  by
    generalize hb : body invd = p at h ⊢
    exact run_prog (hb ▸ Safe_body invd) c V0 Φ h

/-! ## In the launch's own terms -/

/-- Every copy's semaphore. -/
abbrev osem0 : Fin 38 → SemLoc sig := fun k => .dma k
theorem ownSemFacts0 : Pipeline.OwnSemFacts cfg0.spec osem0 := by decide
theorem refsH_sub : refsH ⊆ Pipeline.restRefs sig cfg0.spec := by decide
theorem refsR_sub : refsR ⊆ Pipeline.restRefs sig cfg0.spec \ refsH := by decide

theorem refsS_eq : (Finset.univ.filter fun b : Ref sig .tc => b.isScoped) \ Finset.univ.image (Pipeline.stageRef cfg0.spec) = refsS := by decide

theorem scopedRest_eq (c : Dev nD) :
    (Pipeline.scopedRest (Ix := Unit) (Name := ℕ) (U := Pipeline.UD sig nD τ) (Lvl := ℕ) (Val := Elt F) cfg0.spec c : sProp 𝕄) = bigSep refsS (bufE c) := by
  unfold Pipeline.scopedRest; rw [refsS_eq]

theorem ownSems0_eq (c : Dev nD) :
    (Pipeline.ownSems0 (Ix := Unit) (Name := ℕ) (U := Pipeline.UD sig nD τ) (Lvl := ℕ) (Val := Elt F) (τ := τ) osem0 c : sProp 𝕄) = sems0 c := rfl

theorem owned_eq (c : Dev nD) : (Pipeline.owned refsR c : sProp 𝕄) = bigSep refsR (bufE c) := rfl

theorem routed_eq (c : Dev nD) (G : St F) : (Pipeline.routed refsR c G : sProp 𝕄) = bigSep refsR (bufW c G) := rfl

/-- The body's invariant before a point and after it: the results at anything, then as `Φ` says. -/
def Leaves (VL : Dev nD → St F) (Φ : Dev nD → St F → Prop) (c : Dev nD) : sProp 𝕄 :=
  iprop(∃ G : St F, ⌜Φ c G⌝ ∗ Pipeline.ΦDRG osem0 cfg0.spec refsH refsR VL (fun _ => G) c)

/-- From the buffers as launched to the results as `Φ` says, for a program run from `Pre` to `Post`. -/
theorem sound_prog {defs₀ : Defs nD τ sig (Elt F) Λ₀} (VL : Dev nD → St F) (Φ : Dev nD → St F → Prop) (c : Dev nD) {p : Prog (TpuEff nD τ sig (Elt F) Λ₀ .tc) PUnit}
    (hp : Pre c (VL c) ⊢ (wp frame (wpE defs₀ Variants.none (c : Thread nD τ) none) Set.univ p (fun _ => Post c (VL c) (Φ c)) : sProp 𝕄)) :
    iprop(Pipeline.ΦDR osem0 cfg0.spec refsH refsR VL c ∗ ∃ W, owes (c : Thread nD τ) 0 W)
      ⊢ (wp frame (wpE defs₀ Variants.none (c : Thread nD τ) none) Set.univ p
          (fun _ => iprop(Leaves VL Φ c ∗ ∃ W, owes (c : Thread nD τ) 0 W)) : sProp 𝕄) := by
  unfold Leaves
  rw [Pipeline.ΦDR_eq, scopedRest_eq, ownSems0_eq, owned_eq]
  simp only [Pipeline.ΦDRG_eq, scopedRest_eq, ownSems0_eq, routed_eq]
  iintro ⟨⟨HS, Hg, Hs, HH, HR⟩, Ho⟩
  iapply wp_wand_r
  isplitr [Hg]
  · iapply hp
    unfold Pre
    isplitl [HS]; · iexact HS
    isplitl [Hs]; · iexact Hs
    isplitl [HH]; · iexact HH
    isplitl [HR]; · iexact HR
    iexact Ho
  iintro %a HP
  unfold Post
  icases HP with ⟨%V', %hΦ, HS, Hs, HH, HR, Ho⟩
  isplitr [Ho]
  · iexists V'
    isplitr
    · ipureintro; exact hΦ
    isplitl [HS]; · iexact HS
    isplitl [Hg]; · iexact Hg
    isplitl [Hs]; · iexact Hs
    isplitl [HH]; · iexact HH
    iexact HR
  iexact Ho

end Cert.Proof.Body
-- ==== Proof.RunIdeal.lean ====
/- The idealized kernel's run: its frame, and what its results hold once the body is known to leave that. -/
module

public import proofs.«01_k».proof.Proof.SameE
public import proofs.«01_k».proof.Proof.Launch
public import proofs.«01_k».proof.Proof.Gen.KernelIdeal.Frame
public import Idealize.ShloMosaic.Lib.Pipeline.FrameValue

@[expose] public section

noncomputable section

namespace Cert.Proof.RunIdeal

open Cert.KernelIdeal Cert.KernelIdeal.Gen
open Cert.Proof.Body (refsH refsR refsS Pre Post bufE bufW sems0 St run_prog same_body W osem0 ownSemFacts0 refsH_sub refsR_sub routed_eq Leaves sound_prog)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev dats (Φ : Dev nD → St F → Prop) (_ : Fin 1) (c : Dev nD) : Dat τ (Elt F) Unit ℕ (Pipeline.UD sig nD τ) ℕ cfg0 c where
  A w := w.elim0
  after w _ := w.elim0
  Φ t := if t = 0 then Pipeline.ΦDR osem0 cfg0.spec refsH refsR (V m) c else Leaves (V m) Φ c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_obligation (Φ : Dev nD → St F → Prop) (c : Dev nD) {p : Prog (TpuEff nD τ sig (Elt F) Λ₀ .tc) PUnit} (hb : bodyAt0 t0_0 = p)
    (hs : Body.Safe (defs₀ (F := F)) ∅ p ∅) (h : ∀ V' : St F, (∀ b ∈ refsH, V' b = V m c b) → W p (fun _ V'' => Φ c V'') V') :
    BodyObligation (dats m Φ 0 c) (defs₀ (F := F)) Variants.none () Set.univ := fun t => by
  obtain rfl := fin_N0 t
  rw [defs₀_row]
  have e0 : (dats m Φ 0 c).Φ (Fin.castSucc t0_0) = Pipeline.ΦDR osem0 cfg0.spec refsH refsR (V m) c := by
    dsimp only [dats]; exact if_pos rfl
  have e1 : (dats m Φ 0 c).Φ (Fin.succ t0_0) = Leaves (V m) Φ c := by
    dsimp only [dats]; exact if_neg (by decide)
  rw [e0, e1, Finset.univ_eq_empty, BI.bigSep_empty, BI.bigSep_empty]
  unfold Dat.owesAt Pipeline.owesWithin
  rw [show (dats m Φ 0 c).owed (Fin.castSucc t0_0) = 0 from rfl]
  rw [hb]
  have key := sound_prog (V m) Φ c (run_prog hs c (V m c) (Φ c) h)
  iintro ⟨HΦ, ⟨%W, -, HW⟩, -⟩
  iapply wp_wand_r
  isplitl
  · iapply key
    isplitl [HΦ]; · iexact HΦ
    iexists W; iexact HW
  iintro %a ⟨HI, ⟨%W', HW'⟩⟩
  isplitl [HI]; · iexact HI
  isplitl [HW']
  · iexists W'; isplitr; · ipureintro; exact fun _ _ => Or.inl trivial
    iexact HW'
  iempintro

/-! ## The run -/

theorem named_body : ∃ p : Prog (TpuEff nD τ sig (Elt F) Λ₀ .tc) PUnit, p = Body.body (Named.named κ "inv_d" 0x3A2AAAAB#32) ∧ bodyAt0 t0_0 = p
    ∧ Body.Safe (defs₀ (F := F)) ∅ p ∅ :=
  ⟨_, rfl, same_body, Body.Safe_body _⟩

set_option backward.isDefEq.respectTransparency.types false in
theorem run_main_of {p : Prog (TpuEff nD τ sig (Elt F) Λ₀ .tc) PUnit} (hb : bodyAt0 t0_0 = p) (hs : Body.Safe (defs₀ (F := F)) ∅ p ∅) : θ_run defs (onTc (τ := τ) (main (F := F))) (s₀ m ρ)
    (fun r => Pipeline.FramePostR cfgs (dats m fun _ _ => True) 0 refsR (V m) r ∧ r.2.sem = fun _ => 0) :=
  Pipeline.θ_run_frame_dmaR (Q' := _) cfgs (dats m fun _ _ => True) (0 : Fin 1) launch0 osem0 defs₀ Variants.none ownSemFacts0 refsH refsR refsH_sub refsR_sub
    m ρ main
    (hbody := fun c => (body_obligation m (fun _ _ => True) c hb hs fun V' _ => Body.W_true _ (fun _ _ => trivial) V').loose)
    (hshare := fun c => (dats m _ 0 c).share_full fun _ => rfl)
    (howed := fun _ _ => rfl) (V := V m) (hmain := hmain m Variants.none) (hA := fun _ w => w.elim0)
    (hin := fun _ => .rfl) (hout := fun c => by
      rw [show (dats m (fun _ _ => True) 0 c).Φ (Fin.last _) = Leaves (V m) (fun _ _ => True) c from by dsimp only [dats]; exact if_neg (by decide)]
      unfold Leaves
      iintro ⟨%G, -, HI⟩
      iapply (Pipeline.ΦDRG_ΦDR osem0 cfg0.spec refsH refsR (V m) (fun _ => G) c); iexact HI)

theorem run_main : θ_run defs (onTc (τ := τ) (main (F := F))) (s₀ m ρ)
    (fun r => Pipeline.FramePostR cfgs (dats m fun _ _ => True) 0 refsR (V m) r ∧ r.2.sem = fun _ => 0) :=
  let ⟨_, _, hb, hs⟩ := named_body (F := F); run_main_of m ρ hb hs

set_option backward.isDefEq.respectTransparency.types false in
/-- The run where the body is known to leave `G` in the results. -/
theorem run_value_of {p : Prog (TpuEff nD τ sig (Elt F) Λ₀ .tc) PUnit} (hb : bodyAt0 t0_0 = p) (hs : Body.Safe (defs₀ (F := F)) ∅ p ∅)
    (G : (c : Dev nD) → (b : Ref sig .tc) → Buf (Elt F) ((c.tc : Thread nD τ).loc b))
    (h : ∀ c, ∀ V' : St F, (∀ b ∈ refsH, V' b = V m c b) →
      W p (fun _ V'' => ∀ b ∈ refsR, V'' b = G c b) V') :
    θ_run defs (onTc (τ := τ) (main (F := F))) (s₀ m ρ)
      (Pipeline.FramePostRG cfgs (dats m fun c V'' => ∀ b ∈ refsR, V'' b = G c b) 0 refsR (V m) G) :=
  Pipeline.θ_run_frame_dmaRG cfgs (dats m fun c V'' => ∀ b ∈ refsR, V'' b = G c b) (0 : Fin 1) launch0 osem0 defs₀ Variants.none ownSemFacts0 refsH refsR
    refsH_sub refsR_sub m ρ main
    (hbody := fun c => (body_obligation m _ c hb hs (h c)).loose)
    (hshare := fun c => (dats m _ 0 c).share_full fun _ => rfl)
    (howed := fun _ _ => rfl) (V := V m) (hmain := hmain m Variants.none) (hA := fun _ w => w.elim0) (G := G)
    (hin := fun c => Pipeline.ΦDRG_ΦDR osem0 cfg0.spec refsH refsR (V m) (V m) c) (hout := fun c => by
      rw [show (dats m (fun c V'' => ∀ b ∈ refsR, V'' b = G c b) 0 c).Φ (Fin.last _) = Leaves (V m) (fun c V'' => ∀ b ∈ refsR, V'' b = G c b) c from by
        dsimp only [dats]; exact if_neg (by decide)]
      unfold Leaves
      iintro ⟨%G', %hG, HI⟩
      iapply (show Pipeline.ΦDRG osem0 cfg0.spec refsH refsR (V m) (fun _ => G') c ⊢ (Pipeline.ΦDRG osem0 cfg0.spec refsH refsR (V m) G c : sProp 𝕄) from by
        rw [Pipeline.ΦDRG_eq, Pipeline.ΦDRG_eq, routed_eq, routed_eq, Body.bigSep_swap c hG])
      iexact HI)

theorem run_value (G : (c : Dev nD) → (b : Ref sig .tc) → Buf (Elt F) ((c.tc : Thread nD τ).loc b))
    (h : ∀ p, p = Body.body (Named.named κ "inv_d" 0x3A2AAAAB#32) → ∀ c, ∀ V' : St F, (∀ b ∈ refsH, V' b = V m c b) →
      W p (fun _ V'' => ∀ b ∈ refsR, V'' b = G c b) V') :
    θ_run defs (onTc (τ := τ) (main (F := F))) (s₀ m ρ)
      (Pipeline.FramePostRG cfgs (dats m fun c V'' => ∀ b ∈ refsR, V'' b = G c b) 0 refsR (V m) G) :=
  let ⟨p, hp, hb, hs⟩ := named_body (F := F); run_value_of m ρ hb hs G (h p hp)

theorem rest {b : Ref sig .tc} (h1 : b ∈ Pipeline.restRefs sig cfg0.spec) (h2 : b ∉ refsR) : b ∈ Pipeline.restRefs sig cfg0.spec \ refsR :=
  Finset.mem_sdiff.mpr ⟨h1, h2⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (rest (by decide) (by decide))).trans (V_main_arg0 m c),
     ((h.1 c).2 main_arg1 (rest (by decide) (by decide))).trans (V_main_arg1 m c),
     ((h.1 c).2 main_arg2 (rest (by decide) (by decide))).trans (V_main_arg2 m c),
     ((h.1 c).2 main_arg3 (rest (by decide) (by decide))).trans (V_main_arg3 m c),
     ((h.1 c).2 main_arg4 (rest (by decide) (by decide))).trans (V_main_arg4 m c),
     ((h.1 c).2 main_arg5 (rest (by decide) (by decide))).trans (V_main_arg5 m c),
     ((h.1 c).2 main_arg6 (rest (by decide) (by decide))).trans (V_main_arg6 m c)⟩, h.2⟩) (run_main m ρ)

end Cert.Proof.RunIdeal
-- ==== Proof.SameKA.lean ====
module

public import proofs.«01_k».proof.Proof.Prog
public import proofs.«01_k».proof.Proof.Gen.Kernel

@[expose] public section

set_option maxRecDepth 100000
set_option maxHeartbeats 0

namespace Cert.Proof.Body

open Idealize.ShloMosaic Idealize.SL.Sem
open Cert.Kernel Cert.Kernel.Gen

variable {F : FTy → Type} [FloatOps F]

theorem sameKA : k0_part228 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 = chunkA (Scalar.ofBits .f32 0x3A2AAAAB#32) := by
  rfl

end Cert.Proof.Body
-- ==== Proof.SameKB.lean ====
module

public import proofs.«01_k».proof.Proof.Prog
public import proofs.«01_k».proof.Proof.Gen.Kernel

@[expose] public section

set_option maxRecDepth 100000
set_option maxHeartbeats 0

namespace Cert.Proof.Body

open Idealize.ShloMosaic Idealize.SL.Sem
open Cert.Kernel Cert.Kernel.Gen

variable {F : FTy → Type} [FloatOps F]

theorem sameKB (g : Vec F S1x1536 .f32) (n dxh p : FVec F S16x1536 .f32) (dg : FVec F S1x1536 .f32) :
    k0_part229 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 g n dxh p dg = chunkB (Scalar.ofBits .f32 0x3A2AAAAB#32) g n dxh p dg := by
  rfl

end Cert.Proof.Body
-- ==== Proof.SameKC.lean ====
module

public import proofs.«01_k».proof.Proof.Prog
public import proofs.«01_k».proof.Proof.Gen.Kernel

@[expose] public section

set_option maxRecDepth 100000
set_option maxHeartbeats 0

namespace Cert.Proof.Body

open Idealize.ShloMosaic Idealize.SL.Sem
open Cert.Kernel Cert.Kernel.Gen

variable {F : FTy → Type} [FloatOps F]

theorem sameKC (sc : FVec F S128x12 .f32) (v : FVec F S128x128 .bf16) :
    k0_part230 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 sc v = chunkC (Scalar.ofBits .f32 0x3A2AAAAB#32) sc v := by
  rfl

end Cert.Proof.Body
-- ==== Proof.SameKD.lean ====
module

public import proofs.«01_k».proof.Proof.Prog
public import proofs.«01_k».proof.Proof.Gen.Kernel

@[expose] public section

set_option maxRecDepth 100000
set_option maxHeartbeats 0

namespace Cert.Proof.Body

open Idealize.ShloMosaic Idealize.SL.Sem
open Cert.Kernel Cert.Kernel.Gen

variable {F : FTy → Type} [FloatOps F]

theorem sameKD (sc : FVec F S128x12 .f32) (v : FVec F S128x128 .bf16) :
    k0_part231 (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 sc v = chunkD (Scalar.ofBits .f32 0x3A2AAAAB#32) sc v := by
  rfl
end Cert.Proof.Body
-- ==== Proof.SameKE.lean ====
module

public import proofs.«01_k».proof.Proof.SameKA
public import proofs.«01_k».proof.Proof.SameKB
public import proofs.«01_k».proof.Proof.SameKC
public import proofs.«01_k».proof.Proof.SameKD

@[expose] public section

set_option maxRecDepth 100000
set_option maxHeartbeats 0

namespace Cert.Proof.Body

open Idealize.ShloMosaic Idealize.SL.Sem
open Cert.Kernel Cert.Kernel.Gen

variable {F : FTy → Type} [FloatOps F]

theorem sameK_body : cc0_rmsnorm_qkv_bwd (F := F) (Memref.whole main_arg0) (Memref.isWhole_whole _) (Memref.whole main_arg1) (Memref.isWhole_whole _) (Memref.whole main_arg2) (Memref.isWhole_whole _) (Memref.whole main_v0) (Memref.isWhole_whole _) (Memref.whole main_arg4) (Memref.isWhole_whole _) (Memref.whole main_v1) (Memref.isWhole_whole _) (Memref.whole main_arg6) (Memref.isWhole_whole _) (Memref.whole main_v2_0) (Memref.isWhole_whole _) (Memref.whole main_v2_1) (Memref.isWhole_whole _) (Memref.whole main_v2_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) cc0_scratch15 cc0_scratch16 cc0_scratch17 cc0_scratch18 cc0_scratch19 cc0_scratch20 cc0_scratch21 cc0_scratch22 = body (Scalar.ofBits .f32 0x3A2AAAAB#32) := by
  unfold cc0_rmsnorm_qkv_bwd
  simp only [sameKA, sameKB, sameKC, sameKD]
  simp only [chunkA, chunkB, chunkC, chunkD, body, batch, last, norm, prep, prepRow, normRow, tile, forN, loop, bind_assoc, pure_bind]
  rfl
end Cert.Proof.Body
-- ==== Proof.RunKernel.lean ====
/- The kernel's run: its frame. -/
module

public import proofs.«01_k».proof.Proof.SameKE
public import proofs.«01_k».proof.Proof.Launch
public import proofs.«01_k».proof.Proof.Gen.Kernel.Frame
public import Idealize.ShloMosaic.Lib.Pipeline.FrameValue

@[expose] public section

noncomputable section

namespace Cert.Proof.RunKernel

open Cert.Kernel Cert.Kernel.Gen
open Cert.Proof.Body (refsH refsR refsS Pre Post bufE bufW sems0 St run_prog sameK_body W osem0 ownSemFacts0 refsH_sub refsR_sub routed_eq Leaves sound_prog)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev dats (Φ : Dev nD → St F → Prop) (_ : Fin 1) (c : Dev nD) : Dat τ (Elt F) Unit ℕ (Pipeline.UD sig nD τ) ℕ cfg0 c where
  A w := w.elim0
  after w _ := w.elim0
  Φ t := if t = 0 then Pipeline.ΦDR osem0 cfg0.spec refsH refsR (V m) c else Leaves (V m) Φ c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (Φ : Dev nD → St F → Prop) (c : Dev nD) {p : Prog (TpuEff nD τ sig (Elt F) Λ₀ .tc) PUnit} (hb : bodyAt0 t0_0 = p)
    (hs : Body.Safe (defs₀ (F := F)) ∅ p ∅) (h : ∀ V' : St F, (∀ b ∈ refsH, V' b = V m c b) → W p (fun _ V'' => Φ c V'') V') :
    BodyObligation (dats m Φ 0 c) (defs₀ (F := F)) Variants.none () Set.univ := fun t => by
  obtain rfl := fin_N0 t
  rw [defs₀_row]
  have e0 : (dats m Φ 0 c).Φ (Fin.castSucc t0_0) = Pipeline.ΦDR osem0 cfg0.spec refsH refsR (V m) c := by
    dsimp only [dats]; exact if_pos rfl
  have e1 : (dats m Φ 0 c).Φ (Fin.succ t0_0) = Leaves (V m) Φ c := by
    dsimp only [dats]; exact if_neg (by decide)
  rw [e0, e1, Finset.univ_eq_empty, BI.bigSep_empty, BI.bigSep_empty]
  unfold Dat.owesAt Pipeline.owesWithin
  rw [show (dats m Φ 0 c).owed (Fin.castSucc t0_0) = 0 from rfl]
  rw [hb]
  have key : iprop(Pipeline.ΦDR osem0 cfg0.spec refsH refsR (V m) c ∗ ∃ W, owes (c : Thread nD τ) 0 W)
      ⊢ (wp frame (wpE defs₀ Variants.none (c : Thread nD τ) none) Set.univ p
          (fun _ => iprop(Leaves (V m) Φ c ∗ ∃ W, owes (c : Thread nD τ) 0 W)) : sProp 𝕄) :=
    sound_prog (V m) Φ c (run_prog hs c (V m c) (Φ c) h)
  iintro ⟨HΦ, ⟨%W, -, HW⟩, -⟩
  iapply wp_wand_r
  isplitl
  · iapply key
    isplitl [HΦ]; · iexact HΦ
    iexists W; iexact HW
  iintro %a ⟨HI, ⟨%W', HW'⟩⟩
  isplitl [HI]; · iexact HI
  isplitl [HW']
  · iexists W'; isplitr; · ipureintro; exact fun _ _ => Or.inl trivial
    iexact HW'
  iempintro

/-! ## The run -/

theorem named_body : ∃ p : Prog (TpuEff nD τ sig (Elt F) Λ₀ .tc) PUnit, p = Body.body (Scalar.ofBits .f32 0x3A2AAAAB#32) ∧ bodyAt0 t0_0 = p
    ∧ Body.Safe (defs₀ (F := F)) ∅ p ∅ :=
  ⟨_, rfl, sameK_body, Body.Safe_body _⟩

set_option backward.isDefEq.respectTransparency.types false in
set_option maxHeartbeats 2000000 in
theorem run_main_of {p : Prog (TpuEff nD τ sig (Elt F) Λ₀ .tc) PUnit} (hb : bodyAt0 t0_0 = p) (hs : Body.Safe (defs₀ (F := F)) ∅ p ∅) : θ_run defs (onTc (τ := τ) (main (F := F))) (s₀ m ρ)
    (fun r => Pipeline.FramePostR cfgs (dats m fun _ _ => True) 0 refsR (V m) r ∧ r.2.sem = fun _ => 0) :=
  Pipeline.θ_run_frame_dmaR (Q' := _) cfgs (dats m fun _ _ => True) (0 : Fin 1) launch0 osem0 defs₀ Variants.none ownSemFacts0 refsH refsR refsH_sub refsR_sub
    m ρ main
    (hbody := fun c => (body_obligation m (fun _ _ => True) c hb hs fun V' _ => Body.W_true _ (fun _ _ => trivial) V').loose)
    (hshare := fun c => (dats m _ 0 c).share_full fun _ => rfl)
    (howed := fun _ _ => rfl) (V := V m) (hmain := hmain m Variants.none) (hA := fun _ w => w.elim0)
    (hin := fun _ => .rfl) (hout := fun c => by
      rw [show (dats m (fun _ _ => True) 0 c).Φ (Fin.last _) = Leaves (V m) (fun _ _ => True) c from by dsimp only [dats]; exact if_neg (by decide)]
      unfold Leaves
      iintro ⟨%G, -, HI⟩
      iapply (Pipeline.ΦDRG_ΦDR osem0 cfg0.spec refsH refsR (V m) (fun _ => G) c); iexact HI)

theorem run_main : θ_run defs (onTc (τ := τ) (main (F := F))) (s₀ m ρ)
    (fun r => Pipeline.FramePostR cfgs (dats m fun _ _ => True) 0 refsR (V m) r ∧ r.2.sem = fun _ => 0) :=
  let ⟨_, _, hb, hs⟩ := named_body (F := F); run_main_of m ρ hb hs

theorem rest {b : Ref sig .tc} (h1 : b ∈ Pipeline.restRefs sig cfg0.spec) (h2 : b ∉ refsR) : b ∈ Pipeline.restRefs sig cfg0.spec \ refsR :=
  Finset.mem_sdiff.mpr ⟨h1, h2⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨((h.1 c).2 main_arg0 (rest (by decide) (by decide))).trans (V_main_arg0 m c),
     ((h.1 c).2 main_arg1 (rest (by decide) (by decide))).trans (V_main_arg1 m c),
     ((h.1 c).2 main_arg2 (rest (by decide) (by decide))).trans (V_main_arg2 m c),
     ((h.1 c).2 main_arg3 (rest (by decide) (by decide))).trans (V_main_arg3 m c),
     ((h.1 c).2 main_arg4 (rest (by decide) (by decide))).trans (V_main_arg4 m c),
     ((h.1 c).2 main_arg5 (rest (by decide) (by decide))).trans (V_main_arg5 m c),
     ((h.1 c).2 main_arg6 (rest (by decide) (by decide))).trans (V_main_arg6 m c)⟩, h.2⟩) (run_main m ρ)

end Cert.Proof.RunKernel
-- ==== Proof.Hoare.lean ====
/- What the loads, stores and copies do to the buffers' contents, read index by index. -/
module

public import proofs.«01_k».proof.Proof.Calc
public import Idealize.ShloMosaic.Lib.Pointwise
public import Idealize.ShloMosaic.Lib.Writes
public import Idealize.ShloMosaic.Lib.ViewIndex
public import Idealize.ShloMosaic.Lib.ValueLayout

@[expose] public section

noncomputable section

namespace Cert.Proof.Body

open Cert.KernelIdeal Cert.KernelIdeal.Gen
open Idealize.ShloMosaic Idealize.SL.Sem

variable {F : FTy → Type} {α β : Type} {sp sp' : Space} {e : EltTy} {n0 n1 n2 : ℕ}

/-- What a memref reads of the contents. -/
def rd {s : Shape} (m : Memref sig .tc sp s e) (V : St F) : s.Idx → Elt F e := m.view.read (Elt F) (V m.view.ref)

/-- One buffer changed, and of it one rectangle, to `G`. -/
structure Upd2 (m : Memref sig .tc sp ⟨2, ![n0, n1]⟩ e) (V V' : St F) (a s0 b s1 : ℕ) (G : ℕ → ℕ → Elt F e) : Prop where
  off : ∀ b', b' ≠ m.view.ref → V' b' = V b'
  hit : ∀ (r : Fin n0) (c : Fin n1), a ≤ (r : ℕ) → (r : ℕ) < a + s0 → b ≤ (c : ℕ) → (c : ℕ) < b + s1 → rd m V' (ix2 r c) = G r c
  miss : ∀ (r : Fin n0) (c : Fin n1), ¬(a ≤ (r : ℕ) ∧ (r : ℕ) < a + s0 ∧ b ≤ (c : ℕ) ∧ (c : ℕ) < b + s1) →
    rd m V' (ix2 r c) = rd m V (ix2 r c)

/-- The same at rank three. -/
structure Upd3 (m : Memref sig .tc sp ⟨3, ![n0, n1, n2]⟩ e) (V V' : St F) (a s0 b s1 c s2 : ℕ) (G : ℕ → ℕ → ℕ → Elt F e) : Prop where
  off : ∀ b', b' ≠ m.view.ref → V' b' = V b'
  hit : ∀ (i : Fin n0) (r : Fin n1) (k : Fin n2), a ≤ (i : ℕ) → (i : ℕ) < a + s0 → b ≤ (r : ℕ) → (r : ℕ) < b + s1 →
    c ≤ (k : ℕ) → (k : ℕ) < c + s2 → rd m V' (ix3 i r k) = G i r k
  miss : ∀ (i : Fin n0) (r : Fin n1) (k : Fin n2), ¬(a ≤ (i : ℕ) ∧ (i : ℕ) < a + s0 ∧ b ≤ (r : ℕ) ∧ (r : ℕ) < b + s1 ∧
    c ≤ (k : ℕ) ∧ (k : ℕ) < c + s2) → rd m V' (ix3 i r k) = rd m V (ix3 i r k)

theorem rd_set {s : Shape} (m : Memref sig .tc sp s e) (V : St F) (f) : rd m (setV V m.view.ref f) = m.view.read (Elt F) f := by
  unfold rd setV; rw [Function.update_self]

theorem rd_off {s : Shape} (m : Memref sig .tc sp s e) {V V' : St F} (h : V' m.view.ref = V m.view.ref) : rd m V' = rd m V := by
  unfold rd; rw [h]

theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem emb2 {a b s0 s1 : ℕ} (h) (r : Fin n0) (c : Fin n1) (hr : a ≤ (r : ℕ)) (hr' : (r : ℕ) < a + s0) (hc : b ≤ (c : ℕ)) (hc' : (c : ℕ) < b + s1) :
    ix2 r c = (Rect.unit (s := ⟨2, ![n0, n1]⟩) ![a, b] ![s0, s1] h).emb (ix2 (n0 := s0) (n1 := s1) ⟨r - a, by omega⟩ ⟨c - b, by omega⟩) := by
  refine idx2_ext ?_ ?_
  · show (r : ℕ) = a + 1 * (r - a); omega
  · show (c : ℕ) = b + 1 * (c - b); omega

theorem emb3 {a b c s0 s1 s2 : ℕ} (h) (i : Fin n0) (r : Fin n1) (k : Fin n2) (hi : a ≤ (i : ℕ)) (hi' : (i : ℕ) < a + s0)
    (hr : b ≤ (r : ℕ)) (hr' : (r : ℕ) < b + s1) (hc : c ≤ (k : ℕ)) (hc' : (k : ℕ) < c + s2) :
    ix3 i r k = (Rect.unit (s := ⟨3, ![n0, n1, n2]⟩) ![a, b, c] ![s0, s1, s2] h).emb
      (ix3 (n0 := s0) (n1 := s1) (n2 := s2) ⟨i - a, by omega⟩ ⟨r - b, by omega⟩ ⟨k - c, by omega⟩) := by
  refine Shape.idx3_ext ?_ ?_ ?_
  · show (i : ℕ) = a + 1 * (i - a); omega
  · show (r : ℕ) = b + 1 * (r - b); omega
  · show (k : ℕ) = c + 1 * (k - c); omega

theorem not_mem2 {a b s0 s1 : ℕ} (h) (r : Fin n0) (c : Fin n1)
    (hn : ¬(a ≤ (r : ℕ) ∧ (r : ℕ) < a + s0 ∧ b ≤ (c : ℕ) ∧ (c : ℕ) < b + s1)) :
    ix2 r c ∉ Finset.univ.map (Rect.unit (s := ⟨2, ![n0, n1]⟩) ![a, b] ![s0, s1] h).emb := by
  rw [Rect.map_emb_univ, Rect.mem_set_unit]
  intro hall
  have h0 := hall 0
  have h1 := hall 1
  exact hn ⟨h0.1, h0.2, h1.1, h1.2⟩

theorem not_mem3 {a b c s0 s1 s2 : ℕ} (h) (i : Fin n0) (r : Fin n1) (k : Fin n2)
    (hn : ¬(a ≤ (i : ℕ) ∧ (i : ℕ) < a + s0 ∧ b ≤ (r : ℕ) ∧ (r : ℕ) < b + s1 ∧ c ≤ (k : ℕ) ∧ (k : ℕ) < c + s2)) :
    ix3 i r k ∉ Finset.univ.map (Rect.unit (s := ⟨3, ![n0, n1, n2]⟩) ![a, b, c] ![s0, s1, s2] h).emb := by
  rw [Rect.map_emb_univ, Rect.mem_set_unit]
  intro hall
  have h0 := hall 0
  have h1 := hall 1
  have h2 := hall 2
  exact hn ⟨h0.1, h0.2, h1.1, h1.2, h2.1, h2.2⟩

theorem upd2 (m : Memref sig .tc sp ⟨2, ![n0, n1]⟩ e) (V : St F) {a b s0 s1 : ℕ} (h)
    (w : (⟨2, ![s0, s1]⟩ : Shape).Idx → Elt F e) (G : ℕ → ℕ → Elt F e)
    (hw : ∀ (r : Fin s0) (c : Fin s1), w (ix2 r c) = G (a + r) (b + c)) :
    Upd2 m V (setV V m.view.ref ((m.view.slice (Rect.unit (s := ⟨2, ![n0, n1]⟩) ![a, b] ![s0, s1] h)).write (Elt F) (V m.view.ref) w Finset.univ))
      a s0 b s1 G where
  off b' hb := Function.update_of_ne hb _ _
  hit r c hr hr' hc hc' := by
    rw [rd_set, emb2 h r c hr hr' hc hc', View.read_slice_write_emb _ _ _ (Finset.mem_univ _)]
    refine (hw _ _).trans ?_
    congr 1
    · show a + (r - a) = (r : ℕ); omega
    · show b + (c - b) = (c : ℕ); omega
  miss r c hn := by
    rw [rd_set, View.read_slice_write_of_not_mem _ _ _ _ (not_mem2 h r c hn)]; rfl

theorem upd3 (m : Memref sig .tc sp ⟨3, ![n0, n1, n2]⟩ e) (V : St F) {a b c s0 s1 s2 : ℕ} (h)
    (w : (⟨3, ![s0, s1, s2]⟩ : Shape).Idx → Elt F e) (G : ℕ → ℕ → ℕ → Elt F e)
    (hw : ∀ (i : Fin s0) (r : Fin s1) (k : Fin s2), w (ix3 i r k) = G (a + i) (b + r) (c + k)) :
    Upd3 m V (setV V m.view.ref ((m.view.slice (Rect.unit (s := ⟨3, ![n0, n1, n2]⟩) ![a, b, c] ![s0, s1, s2] h)).write (Elt F) (V m.view.ref) w Finset.univ))
      a s0 b s1 c s2 G where
  off b' hb := Function.update_of_ne hb _ _
  hit i r k hi hi' hr hr' hc hc' := by
    rw [rd_set, emb3 h i r k hi hi' hr hr' hc hc', View.read_slice_write_emb _ _ _ (Finset.mem_univ _)]
    refine (hw _ _ _).trans ?_
    have e0 : a + (i - a) = (i : ℕ) := by omega
    have e1 : b + (r - b) = (r : ℕ) := by omega
    have e2 : c + (k - c) = (k : ℕ) := by omega
    show G (a + (i - a)) (b + (r - b)) (c + (k - c)) = _
    rw [e0, e1, e2]
  miss i r k hn := by
    rw [rd_set, View.read_slice_write_of_not_mem _ _ _ _ (not_mem3 h i r k hn)]; rfl

/-! ## Loads and stores -/

theorem W_ld2 {m : Memref sig .tc .vmem ⟨2, ![n0, n1]⟩ e} {a b s0 s1 : ℕ} {h hp} {Φ} {V : St F} (G : ℕ → ℕ → Elt F e)
    (hG : ∀ (r : Fin n0) (c : Fin n1), a ≤ (r : ℕ) → (r : ℕ) < a + s0 → b ≤ (c : ℕ) → (c : ℕ) < b + s1 → rd m V (ix2 r c) = G r c)
    (k : ∀ v : (⟨2, ![s0, s1]⟩ : Shape).Idx → Elt F e, (∀ (r : Fin s0) (c : Fin s1), v (ix2 r c) = G (a + r) (b + c)) → Φ v V) :
    W (ld m ![a, b] ![s0, s1] h hp) Φ V := by
  refine k _ fun r c => ?_
  have hr : a + r < n0 := by have h0 : a + s0 ≤ n0 := h 0; omega
  have hc : b + c < n1 := by have h1 : b + s1 ≤ n1 := h 1; omega
  have e : (Rect.unit (s := ⟨2, ![n0, n1]⟩) ![a, b] ![s0, s1] h).toLoadRect.idx (ix2 r c) = ix2 ⟨a + r, hr⟩ ⟨b + c, hc⟩ := by
    refine idx2_ext ?_ ?_
    · show a + 1 * r = a + (r : ℕ); omega
    · show b + 1 * c = b + (c : ℕ); omega
  rw [View.readAt_apply, e]
  exact hG ⟨a + r, hr⟩ ⟨b + c, hc⟩ (by simp) (by simp) (by simp) (by simp)

theorem W_ld3 {m : Memref sig .tc .vmem ⟨3, ![n0, n1, n2]⟩ e} {a b c s0 s1 s2 : ℕ} {h hp} {Φ} {V : St F} (G : ℕ → ℕ → ℕ → Elt F e)
    (hG : ∀ (i : Fin n0) (r : Fin n1) (k : Fin n2), a ≤ (i : ℕ) → (i : ℕ) < a + s0 → b ≤ (r : ℕ) → (r : ℕ) < b + s1 →
      c ≤ (k : ℕ) → (k : ℕ) < c + s2 → rd m V (ix3 i r k) = G i r k)
    (k : ∀ v : (⟨3, ![s0, s1, s2]⟩ : Shape).Idx → Elt F e,
      (∀ (i : Fin s0) (r : Fin s1) (k : Fin s2), v (ix3 i r k) = G (a + i) (b + r) (c + k)) → Φ v V) :
    W (ld m ![a, b, c] ![s0, s1, s2] h hp) Φ V := by
  refine k _ fun i r k => ?_
  have hi : a + i < n0 := by have h0 : a + s0 ≤ n0 := h 0; omega
  have hr : b + r < n1 := by have h0 : b + s1 ≤ n1 := h 1; omega
  have hk : c + k < n2 := by have h1 : c + s2 ≤ n2 := h 2; omega
  have e : (Rect.unit (s := ⟨3, ![n0, n1, n2]⟩) ![a, b, c] ![s0, s1, s2] h).toLoadRect.idx (ix3 i r k)
      = ix3 ⟨a + i, hi⟩ ⟨b + r, hr⟩ ⟨c + k, hk⟩ := by
    refine Shape.idx3_ext ?_ ?_ ?_
    · show a + 1 * i = a + (i : ℕ); omega
    · show b + 1 * r = b + (r : ℕ); omega
    · show c + 1 * k = c + (k : ℕ); omega
  rw [View.readAt_apply, e]
  exact hG ⟨a + i, hi⟩ ⟨b + r, hr⟩ ⟨c + k, hk⟩ (by simp) (by simp) (by simp) (by simp) (by simp) (by simp)

/-- A load whose value is not used. -/
theorem W_ld {s : Shape} {m : Memref sig .tc .vmem s e} {off sz : Fin s.rank → ℕ} {h hp} {Φ} {V : St F} (k : ∀ v, Φ v V) :
    W (ld m off sz h hp) Φ V := k _

theorem W_st32_2 {m : Memref sig .tc .vmem ⟨2, ![n0, n1]⟩ e} {a b s0 s1 : ℕ} {h hp he} {w} {Φ} {V : St F} (G : ℕ → ℕ → Elt F e)
    (hw : ∀ (r : Fin s0) (c : Fin s1), w (ix2 r c) = G (a + r) (b + c))
    (k : ∀ V', Upd2 m V V' a s0 b s1 G → Φ ⟨⟩ V') : W (st32 m ![a, b] ![s0, s1] h w hp he) Φ V :=
  k _ (upd2 m V h w G hw)

theorem W_st16_2 {m : Memref sig .tc .vmem ⟨2, ![n0, n1]⟩ e} {hm} {a b s0 s1 : ℕ} {h hp hr} {w} {Φ} {V : St F} (G : ℕ → ℕ → Elt F e)
    (hw : ∀ (r : Fin s0) (c : Fin s1), w (ix2 r c) = G (a + r) (b + c))
    (k : ∀ V', Upd2 m V V' a s0 b s1 G → Φ ⟨⟩ V') : W (st16 m hm ![a, b] ![s0, s1] h w hp hr) Φ V :=
  k _ (upd2 m V h w G hw)

theorem W_st32_3 {m : Memref sig .tc .vmem ⟨3, ![n0, n1, n2]⟩ e} {a b c s0 s1 s2 : ℕ} {h hp he} {w} {Φ} {V : St F} (G : ℕ → ℕ → ℕ → Elt F e)
    (hw : ∀ (i : Fin s0) (r : Fin s1) (k : Fin s2), w (ix3 i r k) = G (a + i) (b + r) (c + k))
    (k : ∀ V', Upd3 m V V' a s0 b s1 c s2 G → Φ ⟨⟩ V') : W (st32 m ![a, b, c] ![s0, s1, s2] h w hp he) Φ V :=
  k _ (upd3 m V h w G hw)

theorem W_st16_3 {m : Memref sig .tc .vmem ⟨3, ![n0, n1, n2]⟩ e} {hm} {a b c s0 s1 s2 : ℕ} {h hp hr} {w} {Φ} {V : St F} (G : ℕ → ℕ → ℕ → Elt F e)
    (hw : ∀ (i : Fin s0) (r : Fin s1) (k : Fin s2), w (ix3 i r k) = G (a + i) (b + r) (c + k))
    (k : ∀ V', Upd3 m V V' a s0 b s1 c s2 G → Φ ⟨⟩ V') : W (st16 m hm ![a, b, c] ![s0, s1, s2] h w hp hr) Φ V :=
  k _ (upd3 m V h w G hw)

/-! ## Copies -/

theorem W_wait {C : Cp} {Φ} {V : St F} (k : Φ ⟨⟩ V) : W (wait C) Φ V := k

/-- What a started copy leaves. -/
def copied (C : Cp) (V : St F) : St F :=
  setV V C.dst.view.ref (C.dst.view.write (Elt F) (V C.dst.view.ref) (C.src.view.read (Elt F) (V C.src.view.ref)) Finset.univ)

theorem W_start {C : Cp} {Φ} {V : St F} (k : Φ ⟨⟩ (copied C V)) : W (start C) Φ V := k

theorem upd2_whole (m : Memref sig .tc sp ⟨2, ![n0, n1]⟩ e) (V : St F) (w : (⟨2, ![n0, n1]⟩ : Shape).Idx → Elt F e) (G : ℕ → ℕ → Elt F e)
    (hw : ∀ (r : Fin n0) (c : Fin n1), w (ix2 r c) = G r c) :
    Upd2 m V (setV V m.view.ref (m.view.write (Elt F) (V m.view.ref) w Finset.univ)) 0 n0 0 n1 G where
  off b' hb := Function.update_of_ne hb _ _
  hit r c _ _ _ _ := by rw [rd_set, View.read_write_univ]; exact hw r c
  miss r c hn := absurd ⟨Nat.zero_le _, by omega, Nat.zero_le _, by omega⟩ hn

theorem upd3_whole (m : Memref sig .tc sp ⟨3, ![n0, n1, n2]⟩ e) (V : St F) (w : (⟨3, ![n0, n1, n2]⟩ : Shape).Idx → Elt F e) (G : ℕ → ℕ → ℕ → Elt F e)
    (hw : ∀ (i : Fin n0) (r : Fin n1) (k : Fin n2), w (ix3 i r k) = G i r k) :
    Upd3 m V (setV V m.view.ref (m.view.write (Elt F) (V m.view.ref) w Finset.univ)) 0 n0 0 n1 0 n2 G where
  off b' hb := Function.update_of_ne hb _ _
  hit i r k _ _ _ _ _ _ := by rw [rd_set, View.read_write_univ]; exact hw i r k
  miss i r k hn := absurd ⟨Nat.zero_le _, by omega, Nat.zero_le _, by omega, Nat.zero_le _, by omega⟩ hn

/-- Reading a rectangle of a matrix. -/
theorem rd_slice2 (m : Memref sig .tc sp ⟨2, ![n0, n1]⟩ e) (V : St F) {a b s0 s1 : ℕ} (h) (r : Fin s0) (c : Fin s1) (G : ℕ → ℕ → Elt F e)
    (hG : ∀ (r : Fin n0) (c : Fin n1), a ≤ (r : ℕ) → (r : ℕ) < a + s0 → b ≤ (c : ℕ) → (c : ℕ) < b + s1 → rd m V (ix2 r c) = G r c) :
    (m.view.slice (Rect.unit (s := ⟨2, ![n0, n1]⟩) ![a, b] ![s0, s1] h)).read (Elt F) (V m.view.ref) (ix2 r c) = G (a + r) (b + c) := by
  have hr : a + r < n0 := by have h0 : a + s0 ≤ n0 := h 0; omega
  have hc : b + c < n1 := by have h1 : b + s1 ≤ n1 := h 1; omega
  have e : (Rect.unit (s := ⟨2, ![n0, n1]⟩) ![a, b] ![s0, s1] h).emb (ix2 r c) = ix2 ⟨a + r, hr⟩ ⟨b + c, hc⟩ := by
    refine idx2_ext ?_ ?_
    · show a + 1 * r = a + (r : ℕ); omega
    · show b + 1 * c = b + (c : ℕ); omega
  show m.view.read (Elt F) (V m.view.ref) ((Rect.unit (s := ⟨2, ![n0, n1]⟩) ![a, b] ![s0, s1] h).emb (ix2 r c)) = _
  rw [e]
  exact hG ⟨a + r, hr⟩ ⟨b + c, hc⟩ (by simp) (by simp) (by simp) (by simp)

theorem rd_slice3 (m : Memref sig .tc sp ⟨3, ![n0, n1, n2]⟩ e) (V : St F) {a b c s1 s2 : ℕ} (h)
    (hq : (⟨2, ![s1, s2]⟩ : Shape).numel = (⟨3, ![1, s1, s2]⟩ : Shape).numel) (r : Fin s1) (k : Fin s2) (G : ℕ → ℕ → ℕ → Elt F e)
    (hG : ∀ (i : Fin n0) (r : Fin n1) (k : Fin n2), (i : ℕ) = a → b ≤ (r : ℕ) → (r : ℕ) < b + s1 →
      c ≤ (k : ℕ) → (k : ℕ) < c + s2 → rd m V (ix3 i r k) = G i r k) :
    ((m.view.slice (Rect.unit (s := ⟨3, ![n0, n1, n2]⟩) ![a, b, c] ![1, s1, s2] h)).reshape ⟨2, ![s1, s2]⟩ hq).read (Elt F) (V m.view.ref) (ix2 r k)
      = G a (b + r) (c + k) := by
  have hi : a < n0 := by have h0 : a + 1 ≤ n0 := h 0; omega
  have hr : b + r < n1 := by have h0 : b + s1 ≤ n1 := h 1; omega
  have hk : c + k < n2 := by have h1 : c + s2 ≤ n2 := h 2; omega
  have e : (Rect.unit (s := ⟨3, ![n0, n1, n2]⟩) ![a, b, c] ![1, s1, s2] h).emb (Shape.reshapeEquiv hq (ix2 r k))
      = ix3 ⟨a, hi⟩ ⟨b + r, hr⟩ ⟨c + k, hk⟩ := by
    rw [ix2_eq_valueIdx, ValueIdx.reshapeEquiv_ix2_1ab]
    refine Shape.idx3_ext ?_ ?_ ?_
    · show a + 1 * 0 = a; omega
    · show b + 1 * r = b + (r : ℕ); omega
    · show c + 1 * k = c + (k : ℕ); omega
  show m.view.read (Elt F) (V m.view.ref) ((Rect.unit (s := ⟨3, ![n0, n1, n2]⟩) ![a, b, c] ![1, s1, s2] h).emb (Shape.reshapeEquiv hq (ix2 r k))) = _
  rw [e]
  exact hG ⟨a, hi⟩ ⟨b + r, hr⟩ ⟨c + k, hk⟩ rfl (by simp) (by simp) (by simp) (by simp)

theorem upd3_squeeze (m : Memref sig .tc sp ⟨3, ![n0, n1, n2]⟩ e) (V : St F) {a b c s1 s2 : ℕ} (h)
    (hq : (⟨2, ![s1, s2]⟩ : Shape).numel = (⟨3, ![1, s1, s2]⟩ : Shape).numel)
    (w : (⟨2, ![s1, s2]⟩ : Shape).Idx → Elt F e) (G : ℕ → ℕ → ℕ → Elt F e)
    (hw : ∀ (r : Fin s1) (k : Fin s2), w (ix2 r k) = G a (b + r) (c + k)) :
    Upd3 m V (setV V m.view.ref (((m.view.slice (Rect.unit (s := ⟨3, ![n0, n1, n2]⟩) ![a, b, c] ![1, s1, s2] h)).reshape ⟨2, ![s1, s2]⟩ hq).write
      (Elt F) (V m.view.ref) w Finset.univ)) a 1 b s1 c s2 G := by
  rw [View.write_reshape_univ]
  refine upd3 m V h _ G fun i r k => ?_
  have hi : i = (⟨0, Nat.one_pos⟩ : Fin 1) := Subsingleton.elim _ _
  subst hi
  have e : (Shape.reshapeEquiv hq).symm (ix3 (⟨0, Nat.one_pos⟩ : Fin 1) r k) = ix2 r k := by
    rw [Equiv.symm_apply_eq, ix2_eq_valueIdx, ValueIdx.reshapeEquiv_ix2_1ab, ix3_eq_valueIdx]
  show w ((Shape.reshapeEquiv hq).symm (ix3 (⟨0, Nat.one_pos⟩ : Fin 1) r k)) = _
  rw [e]; exact hw r k

/-! ## Sequencing and loops -/

theorem W_seq {p : P F α} {f : α → P F β} {Φ : β → St F → Prop} {V : St F} (h : W p (fun a => W (f a) Φ) V) : W (p >>= f) Φ V := by
  rw [W_bind]; exact h

theorem W_then {p : P F α} {f : α → P F β} {Φ : β → St F → Prop} {Ψ : α → St F → Prop} {V : St F} (h : W p Ψ V)
    (k : ∀ a V', Ψ a V' → W (f a) Φ V') : W (p >>= f) Φ V := W_seq (W_mono p k V h)

theorem W_pure {a : α} {Φ : α → St F → Prop} {V : St F} (h : Φ a V) : W (pure a : P F α) Φ V := h

theorem W_loop {N : ℕ} {f : (i : ℕ) → i < N → P F PUnit} (I : ℕ → St F → Prop)
    (hs : ∀ i (hi : i < N) V, I i V → W (f i hi) (fun _ V' => I (i + 1) V') V) :
    ∀ (k i : ℕ) (h : i + k ≤ N) (V : St F), I i V → W (loop N f k i h) (fun _ V' => I (i + k) V') V
  | 0, _, _, _, h0 => h0
  | k + 1, i, h, V, h0 => by
    refine W_then (hs i (by omega) V h0) fun _ V' h' => ?_
    refine W_mono _ (fun _ V'' h'' => ?_) _ (W_loop I hs k (i + 1) (by omega) V' h')
    rwa [show i + (k + 1) = i + 1 + k by omega]

theorem W_forN {N : ℕ} {f : (i : ℕ) → i < N → P F PUnit} (I : ℕ → St F → Prop) {V : St F} (h0 : I 0 V)
    (hs : ∀ i (hi : i < N) V, I i V → W (f i hi) (fun _ V' => I (i + 1) V') V) :
    W (forN N f) (fun _ V' => I N V') V :=
  W_mono _ (fun _ V' h => by rwa [Nat.zero_add] at h) _ (W_loop I hs N 0 (by omega) V h0)

theorem W_forD {N : ℕ} {f : (i : ℕ) → i < N → P F PUnit} {Φ : PUnit → St F → Prop} {V : St F} (I : ℕ → St F → Prop)
    (hk : ∀ V', I N V' → Φ ⟨⟩ V') (h0 : I 0 V)
    (hs : ∀ i (hi : i < N) V, I i V → W (f i hi) (fun _ V' => I (i + 1) V') V) :
    W (forN N f) Φ V := W_mono _ (fun _ V' h => hk V' h) _ (W_forN I h0 hs)

end Cert.Proof.Body
-- ==== Proof.Pay.lean ====
/- The arithmetic of the kernel's steps, read index by index over the extended reals. -/
module

public import proofs.«01_k».proof.Proof.Prog
public import Idealize.ShloMosaic.Lib.Pointwise

@[expose] public section

noncomputable section

namespace Cert.Proof.Body

open Cert.KernelIdeal Cert.KernelIdeal.Gen
open Idealize.ShloMosaic

theorem vWb_apply (w : Vec Ideal S512x512 .fp8e4m3) (s : Vec Ideal S1x512 .f32) (r : Fin 512) (c : Fin 512) :
    shapeCast S512x512 (vWb w s) shapeCasts_S512x512_S512x512 (ix2 r c) = (w (ix2 r c) * s (ix2 0 c) : EReal) := by
  pointwise [vWb]

theorem vDxh_apply (a w : Vec Ideal S512x2048 .bf16) (i : Fin 1) (r : Fin 512) (c : Fin 512) :
    shapeCast S1x512x512 (vDxh a w) shapeCasts_S512x512_S1x512x512 (ix3 i r c) = (∑ k : Fin 2048, (a (ix2 r k) * w (ix2 c k) : EReal)) := by
  pointwise [vDxh]

theorem vRrep_apply (v : Vec Ideal S1x128 .f32) (i : Fin 1) (r : Fin 128) (c : Fin 128) :
    vRrep v (ix3 i r c) = v (ix2 0 r) := by
  pointwise [vRrep]

theorem vScale_apply (xs rr : Vec Ideal S1x128x12 .f32) (r : Fin 128) (c : Fin 12) :
    vScale xs rr (ix2 r c) = (xs (ix3 0 r c) * rr (ix3 0 r c) : EReal) := by
  pointwise [vScale]

theorem vN_apply (x : Vec Ideal S128x128 .fp8e4m3) (sc : FVec Ideal S128x12 .f32) (j : ℕ) (hj : j < 12) (h) (r : Fin 128) (c : Fin 128) :
    vN x sc j h (ix2 r c) = (x (ix2 r c) * sc (ix2 r ⟨j, hj⟩) : EReal) := by
  pointwise [vN]

theorem vXt_apply (n : FVec Ideal S128x128 .f32) (g : Vec Ideal S1x128 .f32) (r : Fin 128) (c : Fin 128) :
    shapeCast S128x128 (vXt n g) shapeCasts_S128x128_S128x128 (ix2 r c) = (n (ix2 c r) * g (ix2 0 r) : EReal) := by
  pointwise [vXt]

theorem vDg_apply (dg : Vec Ideal S1x1536 .f32) (p : FVec Ideal S16x1536 .f32) (i : Fin 1) (c : Fin 1536) :
    shapeCast S1x1536 (vDg dg p) shapeCasts_S1x1536_S1x1536 (ix2 i c) = (dg (ix2 0 c) + ∑ k : Fin 16, p (ix2 k c) : EReal) := by
  obtain rfl : i = 0 := Subsingleton.elim _ _
  pointwise [vDg]

theorem vDx_apply (invd : EReal) (g : Vec Ideal S1x1536 .f32) (n dxh p : FVec Ideal S16x1536 .f32) (rr : Vec Ideal S1x16x1 .f32)
    (i : Fin 1) (r : Fin 16) (c : Fin 1536) :
    vDx (F := Ideal) invd g n dxh p rr (ix3 i r c) = (rr (ix3 0 r 0) * (dxh (ix2 r c) * g (ix2 0 c)
      - n (ix2 r c) * ((∑ k : Fin 1536, p (ix2 r k) * g (ix2 0 k)) * invd)) : EReal) := by
  pointwise [vDx]

theorem vDw_apply (a : Vec Ideal S512x2048 .bf16) (b : Vec Ideal S2048x512 .bf16) (i : Fin 1) (r : Fin 512) (c : Fin 512) :
    shapeCast S1x512x512 (vDw a b) shapeCasts_S512x512_S1x512x512 (ix3 i r c) = (∑ k : Fin 2048, (a (ix2 r k) * b (ix2 k c) : EReal)) := by
  pointwise [vDw]

end Cert.Proof.Body
-- ==== Proof.Target.lean ====
/- What the two programs compute, as formulas of their arguments, each read by its coordinates. -/
module

public import Mathlib.Data.EReal.Basic
public import Mathlib.Data.EReal.Operations
public import Mathlib.Algebra.BigOperators.Fin

@[expose] public section

noncomputable section

namespace Cert.Proof

/-- The arguments: the codes and their block scales, the normalization's factors and weights, the quantized matrix and its
    column scales, and the gradient. Tokens are numbered through the batches. -/
structure Arg where
  x : ℕ → ℕ → EReal
  xs : ℕ → ℕ → EReal
  r : ℕ → EReal
  g : ℕ → EReal
  w : ℕ → ℕ → EReal
  ws : ℕ → EReal
  dq : ℕ → ℕ → EReal

namespace Arg

variable (I : Arg)

/-- The normalized activation. -/
def nn (t d : ℕ) : EReal := I.x t d * (I.xs t (d / 128) * I.r t)
/-- The dequantized matrix. -/
def wb (d n : ℕ) : EReal := I.w d n * I.ws n
/-- The gradient with respect to the normalized activation's weighted value. -/
def dxh (t d : ℕ) : EReal := ∑ n : Fin 2048, I.dq t n * I.wb d n
/-- The weighted activation, features first. -/
def xt (d t : ℕ) : EReal := I.nn t d * I.g d
/-- The weights' gradient. -/
def dw (d n : ℕ) : EReal := ∑ t : Fin 2048, I.xt d t * I.dq t n
/-- The normalization weights' gradient over the first `t` tokens. -/
def dg (t d : ℕ) : EReal := ∑ k ∈ Finset.range t, I.dxh k d * I.nn k d
/-- The input's gradient; `inv` is the reciprocal of the number of features. -/
def dx (inv : EReal) (t d : ℕ) : EReal :=
  I.r t * (I.dxh t d * I.g d - I.nn t d * ((∑ k : Fin 1536, I.dxh t k * I.nn t k * I.g k) * inv))

theorem dg_zero (d : ℕ) : I.dg 0 d = 0 := rfl

theorem dg_add (t k d : ℕ) : I.dg (t + k) d = I.dg t d + ∑ i : Fin k, I.dxh (t + i) d * I.nn (t + i) d := by
  unfold dg
  rw [Finset.sum_range_add, Finset.sum_range (fun i => I.dxh (t + i) d * I.nn (t + i) d)]

/-- The arguments read off arrays: tokens run through the batches, and what lies outside an array is zero. -/
def of (x : Fin 4 → Fin 512 → Fin 1536 → EReal) (xs : Fin 4 → Fin 512 → Fin 12 → EReal) (r : Fin 4 → Fin 512 → EReal)
    (g : Fin 1536 → EReal) (w : Fin 1536 → Fin 2048 → EReal) (ws : Fin 2048 → EReal) (dq : Fin 4 → Fin 512 → Fin 2048 → EReal) : Arg where
  x t d := if h : t / 512 < 4 ∧ d < 1536 then x ⟨t / 512, h.1⟩ ⟨t % 512, Nat.mod_lt _ (by decide)⟩ ⟨d, h.2⟩ else 0
  xs t d := if h : t / 512 < 4 ∧ d < 12 then xs ⟨t / 512, h.1⟩ ⟨t % 512, Nat.mod_lt _ (by decide)⟩ ⟨d, h.2⟩ else 0
  r t := if h : t / 512 < 4 then r ⟨t / 512, h⟩ ⟨t % 512, Nat.mod_lt _ (by decide)⟩ else 0
  g d := if h : d < 1536 then g ⟨d, h⟩ else 0
  w d n := if h : d < 1536 ∧ n < 2048 then w ⟨d, h.1⟩ ⟨n, h.2⟩ else 0
  ws n := if h : n < 2048 then ws ⟨n, h⟩ else 0
  dq t n := if h : t / 512 < 4 ∧ n < 2048 then dq ⟨t / 512, h.1⟩ ⟨t % 512, Nat.mod_lt _ (by decide)⟩ ⟨n, h.2⟩ else 0

section

variable (x : Fin 4 → Fin 512 → Fin 1536 → EReal) (xs : Fin 4 → Fin 512 → Fin 12 → EReal) (r : Fin 4 → Fin 512 → EReal)
    (g : Fin 1536 → EReal) (w : Fin 1536 → Fin 2048 → EReal) (ws : Fin 2048 → EReal) (dq : Fin 4 → Fin 512 → Fin 2048 → EReal)

theorem row_div (i : Fin 4) (r : Fin 512) : ((i : ℕ) * 512 + r) / 512 = i := by have := r.isLt; omega
theorem row_mod (i : Fin 4) (r : Fin 512) : ((i : ℕ) * 512 + r) % 512 = r := by have := r.isLt; omega

theorem of_x (i : Fin 4) (a : Fin 512) (d : Fin 1536) : (of x xs r g w ws dq).x (i * 512 + a) d = x i a d := by
  simp only [of, row_div, row_mod, i.isLt, d.isLt, and_self, dite_true]
theorem of_xs (i : Fin 4) (a : Fin 512) (d : Fin 12) : (of x xs r g w ws dq).xs (i * 512 + a) d = xs i a d := by
  simp only [of, row_div, row_mod, i.isLt, d.isLt, and_self, dite_true]
theorem of_r (i : Fin 4) (a : Fin 512) : (of x xs r g w ws dq).r (i * 512 + a) = r i a := by
  simp only [of, row_div, row_mod, i.isLt, dite_true]
theorem of_g (d : Fin 1536) : (of x xs r g w ws dq).g d = g d := by
  simp only [of, d.isLt, dite_true]
theorem of_w (d : Fin 1536) (n : Fin 2048) : (of x xs r g w ws dq).w d n = w d n := by
  simp only [of, d.isLt, n.isLt, and_self, dite_true]
theorem of_ws (n : Fin 2048) : (of x xs r g w ws dq).ws n = ws n := by
  simp only [of, n.isLt, dite_true]
theorem of_dq (i : Fin 4) (a : Fin 512) (n : Fin 2048) : (of x xs r g w ws dq).dq (i * 512 + a) n = dq i a n := by
  simp only [of, row_div, row_mod, i.isLt, n.isLt, and_self, dite_true]

end

end Arg

end Cert.Proof
-- ==== Proof.Stage.lean ====
/- The kernel's steps over the extended reals: what each leaves in the buffers. -/
module

public import proofs.«01_k».proof.Proof.Hoare
public import proofs.«01_k».proof.Proof.Pay
public import proofs.«01_k».proof.Proof.Target

@[expose] public section

noncomputable section

namespace Cert.Proof.Body

open Cert.KernelIdeal Cert.KernelIdeal.Gen
open Idealize.ShloMosaic Idealize.SL.Sem

/-- Only the buffers of `S` changed. -/
def Fr (S : List (Ref sig .tc)) (V V' : St Ideal) : Prop := ∀ b, b ∉ S → V' b = V b

theorem Fr.refl {S : List (Ref sig .tc)} {V : St Ideal} : Fr S V V := fun _ _ => rfl

theorem Fr.trans {S : List (Ref sig .tc)} {V V' V'' : St Ideal} (h : Fr S V V') (h' : Fr S V' V'') : Fr S V V'' :=
  fun b hb => (h' b hb).trans (h b hb)

theorem Fr.mono {S S' : List (Ref sig .tc)} {V V' : St Ideal} (h : Fr S V V') (hs : ∀ b ∈ S, b ∈ S') : Fr S' V V' :=
  fun b hb => h b fun hm => hb (hs b hm)

theorem Upd2.fr {sp : Space} {e : EltTy} {n0 n1 a s0 b s1 : ℕ} {m : Memref sig .tc sp ⟨2, ![n0, n1]⟩ e} {V V' : St Ideal} {G}
    (h : Upd2 m V V' a s0 b s1 G) {S : List (Ref sig .tc)} (hs : m.view.ref ∈ S) : Fr S V V' :=
  fun b hb => h.off b fun he => hb (he ▸ hs)

theorem Upd3.fr {sp : Space} {e : EltTy} {n0 n1 n2 a s0 b s1 c s2 : ℕ} {m : Memref sig .tc sp ⟨3, ![n0, n1, n2]⟩ e} {V V' : St Ideal} {G}
    (h : Upd3 m V V' a s0 b s1 c s2 G) {S : List (Ref sig .tc)} (hs : m.view.ref ∈ S) : Fr S V V' :=
  fun b hb => h.off b fun he => hb (he ▸ hs)

theorem Fr.rd {S : List (Ref sig .tc)} {V V' : St Ideal} (h : Fr S V V') {sp : Space} {e : EltTy} {s : Shape} (m : Memref sig .tc sp s e)
    (hm : m.view.ref ∉ S) : rd m V' = rd m V := rd_off m (h _ hm)

attribute [local irreducible] W loop forN

variable (I : Arg)

/-- The arguments' copies in the core's memory are complete. -/
structure Ins (V : St Ideal) : Prop where
  x : ∀ r c, rd xV V (ix2 r c) = I.x r c
  xs : ∀ i r k, rd xsV V (ix3 i r k) = I.xs (i * 512 + r) k
  r : ∀ i r, rd rstdV V (ix2 i r) = I.r (i * 512 + r)
  g : ∀ i c, rd gammaV V (ix2 i c) = I.g c
  w : ∀ r c, rd wV V (ix2 r c) = I.w r c
  ws : ∀ i c, rd wsV V (ix2 i c) = I.ws c
  dq : ∀ r c, rd dqV V (ix2 r c) = I.dq r c

variable {I}

theorem Ins.fr {S : List (Ref sig .tc)} {V V' : St Ideal} (h : Ins I V) (hf : Fr S V V')
    (hs : ∀ b ∈ [cc0_scratch0, cc0_scratch1, cc0_scratch2, cc0_scratch3, cc0_scratch4, cc0_scratch5, cc0_scratch6], b ∉ S) : Ins I V' where
  x := by rw [hf.rd xV (hs _ (by decide))]; exact h.x
  xs := by rw [hf.rd xsV (hs _ (by decide))]; exact h.xs
  r := by rw [hf.rd rstdV (hs _ (by decide))]; exact h.r
  g := by rw [hf.rd gammaV (hs _ (by decide))]; exact h.g
  w := by rw [hf.rd wV (hs _ (by decide))]; exact h.w
  ws := by rw [hf.rd wsV (hs _ (by decide))]; exact h.ws
  dq := by rw [hf.rd dqV (hs _ (by decide))]; exact h.dq

/-! ## The matrix and the products with it -/

theorem W_zeroDg (V : St Ideal) : W zeroDg (fun _ V' => Fr [cc0_scratch14] V V' ∧ ∀ i c, rd dgV V' (ix2 i c) = I.dg 0 c) V := by
  refine W_seq (W_ld fun _ => ?_)
  refine W_st32_2 (s0 := 1) (s1 := 1536) (fun _ c => I.dg 0 c) (fun r c => ?_) fun V' hu => ⟨hu.fr (by decide), fun i c => ?_⟩
  · rw [I.dg_zero]; pointwise
  · exact hu.hit i c (by omega) (by omega) (by omega) (by omega)

theorem W_dequant (p c : ℕ) (hp hc) (V : St Ideal) (hI : Ins I V) :
    W (dequant p c hp hc) (fun _ V' => Upd2 wbV V V' (p * 512) 512 (c * 512) 512 I.wb) V := by
  refine W_seq (W_ld2 (s0 := 512) (s1 := 512) I.w (fun r c _ _ _ _ => hI.w r c) fun w hw => ?_)
  refine W_seq (W_ld2 (s0 := 1) (s1 := 512) (fun _ c => I.ws c) (fun r c _ _ _ _ => hI.ws r c) fun s hs => ?_)
  refine W_seq (W_ld fun _ => ?_)
  refine W_st16_2 (s0 := 512) (s1 := 512) I.wb (fun r c => ?_) fun V' hu => hu
  rw [vWb_apply, hw, hs]; rfl

theorem W_dxhat (b p : ℕ) (hb hp) (V : St Ideal) (hI : Ins I V) (hw : ∀ (r : Fin 1536) (c : Fin 2048), p * 512 ≤ (r : ℕ) → (r : ℕ) < p * 512 + 512 → rd wbV V (ix2 r c) = I.wb r c) :
    W (dxhat b p hb hp) (fun _ V' => Upd3 dxhV V V' (b % 2) 1 0 512 (p * 512) 512 (fun _ r k => I.dxh (b * 512 + r) k)) V := by
  refine W_seq (W_ld2 (s0 := 512) (s1 := 2048) I.dq (fun r c _ _ _ _ => hI.dq r c) fun a ha => ?_)
  refine W_seq (W_ld2 (s0 := 512) (s1 := 2048) I.wb (fun r c h h' _ _ => hw r c h h') fun w hw => ?_)
  refine W_seq (W_ld fun _ => ?_)
  refine W_st32_3 (s0 := 1) (s1 := 512) (s2 := 512) (fun _ r k => I.dxh (b * 512 + r) k) (fun i r k => ?_) fun V' hu => hu
  rw [vDxh_apply]
  simp only [ha, hw, Nat.zero_add, Arg.dxh]

/-! ## The normalized values -/

theorem W_rreps (b : ℕ) (hb) (V : St Ideal) (hI : Ins I V) :
    W (forN 4 (rrep b hb)) (fun _ V' => Fr [cc0_scratch11] V V' ∧
      ∀ (i : Fin 2) (r : Fin 512) (c : Fin 128), (i : ℕ) = b % 2 → rd rrepV V' (ix3 i r c) = I.r (b * 512 + r)) V := by
  refine W_forD (hk := fun V' h => ⟨h.1, fun i r c hi => h.2 i r c hi (by omega)⟩)
    (fun k V' => Fr [cc0_scratch11] V V' ∧ ∀ (i : Fin 2) (r : Fin 512) (c : Fin 128), (i : ℕ) = b % 2 → (r : ℕ) < 128 * k →
      rd rrepV V' (ix3 i r c) = I.r (b * 512 + r)) ⟨Fr.refl, fun _ _ _ _ h => by omega⟩ fun k hk V1 h => ?_
  have hI1 := hI.fr h.1 (by decide)
  refine W_seq (W_ld2 (s0 := 1) (s1 := 128) (fun i r => I.r (i * 512 + r)) (fun i r _ _ _ _ => hI1.r i r) fun v hv => ?_)
  refine W_seq (W_ld fun _ => ?_)
  refine W_st32_3 (s0 := 1) (s1 := 128) (s2 := 128) (fun _ r _ => I.r (b * 512 + r)) (fun i r k => ?_) fun V' hu => ⟨h.1.trans (hu.fr (by decide)), fun i r c hi hr => ?_⟩
  · rw [vRrep_apply, hv]; simp
  · by_cases hlt : (r : ℕ) < 128 * k
    · rw [hu.miss i r c (by omega)]; exact h.2 i r c hi hlt
    · exact hu.hit i r c (by omega) (by omega) (by omega) (by omega) (by omega) (by omega)

theorem W_tile (b : ℕ) (hb) (r : ℕ) (hr) (sc : FVec Ideal S128x12 .f32) (j : ℕ) (hj) (V : St Ideal) (hI : Ins I V)
    (hsc : ∀ (t : Fin 128) (j : Fin 12), sc (ix2 t j) = I.xs (b * 512 + r * 128 + t) j * I.r (b * 512 + r * 128 + t)) :
    W (tile b hb r hr sc j hj) (fun _ V' => ∃ V1, Upd3 nV V V1 (b % 2) 1 (r * 128) 128 (j * 128) 128 (fun _ t d => I.nn (b * 512 + t) d) ∧
      Upd2 xtV V1 V' (j * 128) 128 (b * 512 + r * 128) 128 I.xt) V := by
  have hn : ∀ x : Vec Ideal S128x128 .fp8e4m3, (∀ (t d : Fin 128), x (ix2 t d) = I.x (b * 512 + r * 128 + t) (j * 128 + d)) → ∀ h (t d : Fin 128),
      vN x sc j h (ix2 t d) = I.nn (b * 512 + r * 128 + t) (j * 128 + d) := fun x hx h t d => by
    rw [vN_apply _ _ _ hj, hx, hsc, Arg.nn, show (j * 128 + (d : ℕ)) / 128 = j by omega]
  refine W_seq (W_seq (W_ld2 (s0 := 128) (s1 := 128) I.x (fun r c _ _ _ _ => hI.x r c) fun x hx => ?_))
  refine W_seq (W_ld fun _ => ?_)
  refine W_seq (W_st32_3 (s0 := 1) (s1 := 128) (s2 := 128) (fun _ t d => I.nn (b * 512 + t) d) (fun i t d => ?_) fun V1 h1 => ?_)
  · obtain rfl : i = 0 := Subsingleton.elim _ _
    rw [← Nat.add_assoc, ← hn x hx (by interval_cases j <;> decide) t d]
    pointwise
  have hI1 := hI.fr (h1.fr (S := [cc0_scratch9]) (by decide)) (by decide)
  refine W_seq (W_ld2 (s0 := 1) (s1 := 128) (fun _ c => I.g c) (fun r c _ _ _ _ => hI1.g r c) fun g hg => ?_)
  refine W_pure (W_seq (W_ld fun _ => ?_))
  refine W_st16_2 (s0 := 128) (s1 := 128) I.xt (fun d t => ?_) fun V2 h2 => ⟨V1, h1, h2⟩
  rw [vXt_apply, hn x hx, hg]; rfl

theorem W_prepRow (b : ℕ) (hb) (r : ℕ) (hr) (V : St Ideal) (hI : Ins I V)
    (hrr : ∀ (i : Fin 2) (r : Fin 512) (c : Fin 128), (i : ℕ) = b % 2 → rd rrepV V (ix3 i r c) = I.r (b * 512 + r))
    (hn : ∀ (i : Fin 2) (t : Fin 512) (d : Fin 1536), (i : ℕ) = b % 2 → (t : ℕ) < 128 * r → rd nV V (ix3 i t d) = I.nn (b * 512 + t) d)
    (hx : ∀ (d : Fin 1536) (t : Fin 2048), (t : ℕ) < b * 512 + 128 * r → rd xtV V (ix2 d t) = I.xt d t) :
    W (prepRow b hb r hr) (fun _ V' => Fr [cc0_scratch8, cc0_scratch9] V V' ∧
      (∀ (i : Fin 2) (t : Fin 512) (d : Fin 1536), (i : ℕ) = b % 2 → (t : ℕ) < 128 * (r + 1) → rd nV V' (ix3 i t d) = I.nn (b * 512 + t) d) ∧
      (∀ (d : Fin 1536) (t : Fin 2048), (t : ℕ) < b * 512 + 128 * (r + 1) → rd xtV V' (ix2 d t) = I.xt d t)) V := by
  unfold prepRow scale
  refine W_seq (W_seq (W_ld3 (s0 := 1) (s1 := 128) (s2 := 12) (fun i r k => I.xs (i * 512 + r) k) (fun i r k _ _ _ _ _ _ => hI.xs i r k) fun xs hxs => ?_))
  refine W_seq (W_ld3 (s0 := 1) (s1 := 128) (s2 := 12) (fun _ r k => I.r (b * 512 + r)) (fun i r k _ _ _ _ _ _ => hrr i r k (by omega)) fun rr hrr' => ?_)
  refine W_pure ?_
  have hsc : ∀ (t : Fin 128) (j : Fin 12), vScale xs rr (ix2 t j) = I.xs (b * 512 + r * 128 + t) j * I.r (b * 512 + r * 128 + t) := fun t j => by
    rw [vScale_apply, hxs, hrr']; simp [Nat.add_assoc]
  refine W_forD (hk := fun V' h => ⟨h.1, fun i t d hi ht => h.2.1 i t d hi (by omega), fun d t ht => h.2.2 d t (by omega)⟩)
    (fun j V' => Fr [cc0_scratch8, cc0_scratch9] V V' ∧
      (∀ (i : Fin 2) (t : Fin 512) (d : Fin 1536), (i : ℕ) = b % 2 → ((t : ℕ) < 128 * r ∨ (t : ℕ) < 128 * (r + 1) ∧ (d : ℕ) < 128 * j) → rd nV V' (ix3 i t d) = I.nn (b * 512 + t) d) ∧
      (∀ (d : Fin 1536) (t : Fin 2048), ((t : ℕ) < b * 512 + 128 * r ∨ (t : ℕ) < b * 512 + 128 * (r + 1) ∧ (d : ℕ) < 128 * j) → rd xtV V' (ix2 d t) = I.xt d t))
      ⟨Fr.refl, fun i t d hi ht => hn i t d hi (by omega), fun d t ht => hx d t (by omega)⟩ fun j hj V1 h => ?_
  refine W_mono _ ?_ _ (W_tile b hb r hr _ j hj V1 (hI.fr h.1 (by decide)) hsc)
  rintro _ V' ⟨V2, h2, h3⟩
  refine ⟨(h.1.trans (h2.fr (by decide))).trans (h3.fr (by decide)), fun i t d hi ht => ?_, fun d t ht => ?_⟩
  · rw [(h3.fr (S := [cc0_scratch8]) (by decide)).rd nV (by decide)]
    by_cases hin : (t : ℕ) < 128 * r ∨ (t : ℕ) < 128 * (r + 1) ∧ (d : ℕ) < 128 * j
    · rw [h2.miss i t d (by omega)]; exact h.2.1 i t d hi hin
    · exact h2.hit i t d (by omega) (by omega) (by omega) (by omega) (by omega) (by omega)
  · by_cases hin : (t : ℕ) < b * 512 + 128 * r ∨ (t : ℕ) < b * 512 + 128 * (r + 1) ∧ (d : ℕ) < 128 * j
    · rw [h3.miss d t (by omega), (h2.fr (S := [cc0_scratch9]) (by decide)).rd xtV (by decide)]; exact h.2.2 d t hin
    · exact h3.hit d t (by omega) (by omega) (by omega) (by omega)

theorem W_prep (b : ℕ) (hb) (V : St Ideal) (hI : Ins I V) (hx : ∀ (d : Fin 1536) (t : Fin 2048), (t : ℕ) < b * 512 → rd xtV V (ix2 d t) = I.xt d t) :
    W (prep b hb) (fun _ V' => Fr [cc0_scratch8, cc0_scratch9, cc0_scratch11] V V' ∧
      (∀ (i : Fin 2) (r : Fin 512) (c : Fin 128), (i : ℕ) = b % 2 → rd rrepV V' (ix3 i r c) = I.r (b * 512 + r)) ∧
      (∀ (i : Fin 2) (t : Fin 512) (d : Fin 1536), (i : ℕ) = b % 2 → rd nV V' (ix3 i t d) = I.nn (b * 512 + t) d) ∧
      (∀ (d : Fin 1536) (t : Fin 2048), (t : ℕ) < (b + 1) * 512 → rd xtV V' (ix2 d t) = I.xt d t)) V := by
  unfold prep
  refine W_then (W_rreps b hb V hI) fun _ V1 h1 => ?_
  refine W_forD (hk := fun V' h => ⟨h.1, h.2.1, fun i t d hi => h.2.2.1 i t d hi (by omega), fun d t ht => h.2.2.2 d t (by omega)⟩)
    (fun k V' => Fr [cc0_scratch8, cc0_scratch9, cc0_scratch11] V V' ∧
      (∀ (i : Fin 2) (r : Fin 512) (c : Fin 128), (i : ℕ) = b % 2 → rd rrepV V' (ix3 i r c) = I.r (b * 512 + r)) ∧
      (∀ (i : Fin 2) (t : Fin 512) (d : Fin 1536), (i : ℕ) = b % 2 → (t : ℕ) < 128 * k → rd nV V' (ix3 i t d) = I.nn (b * 512 + t) d) ∧
      (∀ (d : Fin 1536) (t : Fin 2048), (t : ℕ) < b * 512 + 128 * k → rd xtV V' (ix2 d t) = I.xt d t))
      ⟨h1.1.mono (by decide), h1.2, fun i t d hi ht => by omega, fun d t ht => ?_⟩ fun k hk V2 h2 => ?_
  · rw [h1.1.rd xtV (by decide)]; exact hx d t (by omega)
  refine W_mono _ (fun _ V' h => ⟨h2.1.trans (h.1.mono (by decide)), ?_, h.2⟩) _
    (W_prepRow b hb k hk V2 (hI.fr h2.1 (by decide)) h2.2.1 h2.2.2.1 h2.2.2.2)
  rw [h.1.rd rrepV (by decide)]; exact h2.2.1

/-! ## The backward normalization -/

theorem W_normRow (invd : EReal) (b : ℕ) (hb) (g : Vec Ideal S1x1536 .f32) (r : ℕ) (hr) (V : St Ideal)
    (hg : ∀ i c, g (ix2 i c) = I.g c)
    (hrr : ∀ (i : Fin 2) (r : Fin 512) (c : Fin 128), (i : ℕ) = b % 2 → rd rrepV V (ix3 i r c) = I.r (b * 512 + r))
    (hn : ∀ (i : Fin 2) (t : Fin 512) (d : Fin 1536), (i : ℕ) = b % 2 → rd nV V (ix3 i t d) = I.nn (b * 512 + t) d)
    (hx : ∀ (i : Fin 2) (t : Fin 512) (d : Fin 1536), (i : ℕ) = b % 2 → rd dxhV V (ix3 i t d) = I.dxh (b * 512 + t) d)
    (hd : ∀ i c, rd dgV V (ix2 i c) = I.dg (b * 512 + r * 16) c) :
    W (normRow (F := Ideal) invd b hb g r hr) (fun _ V' => ∃ V1, Upd2 dgV V V1 0 1 0 1536 (fun _ c => I.dg (b * 512 + (r + 1) * 16) c) ∧
      Upd3 dxV V1 V' (b % 2) 1 (r * 16) 16 0 1536 (fun _ t d => I.dx invd (b * 512 + t) d)) V := by
  refine W_seq (W_seq (W_ld3 (s0 := 1) (s1 := 16) (s2 := 1536) (fun _ t d => I.nn (b * 512 + t) d) (fun i r k _ _ _ _ _ _ => hn i r k (by omega)) fun n hn' => ?_))
  refine W_seq (W_ld3 (s0 := 1) (s1 := 16) (s2 := 1536) (fun _ t d => I.dxh (b * 512 + t) d) (fun i r k _ _ _ _ _ _ => hx i r k (by omega)) fun dxh hdxh => ?_)
  refine W_seq (W_ld2 (s0 := 1) (s1 := 1536) (fun _ c => I.dg (b * 512 + r * 16) c) (fun r c _ _ _ _ => hd r c) fun dg hdg => ?_)
  refine W_seq (W_ld fun _ => ?_)
  refine W_pure ?_
  have en : ∀ t d, shapeCast S16x1536 n shapeCasts_S1x16x1536_S16x1536 (ix2 t d) = I.nn (b * 512 + r * 16 + t) d := fun t d => by
    have : shapeCast S16x1536 n shapeCasts_S1x16x1536_S16x1536 (ix2 t d) = n (ix3 0 t d) := by pointwise
    rw [this, hn']; simp [Nat.add_assoc]
  have ex : ∀ t d, shapeCast S16x1536 dxh shapeCasts_S1x16x1536_S16x1536 (ix2 t d) = I.dxh (b * 512 + r * 16 + t) d := fun t d => by
    have : shapeCast S16x1536 dxh shapeCasts_S1x16x1536_S16x1536 (ix2 t d) = dxh (ix3 0 t d) := by pointwise
    rw [this, hdxh]; simp [Nat.add_assoc]
  have ep : ∀ t d, mulf (F := Ideal) (φ := .f32) (shapeCast S16x1536 dxh shapeCasts_S1x16x1536_S16x1536) (shapeCast S16x1536 n shapeCasts_S1x16x1536_S16x1536) (ix2 t d)
      = (I.dxh (b * 512 + r * 16 + t) d * I.nn (b * 512 + r * 16 + t) d : EReal) := fun t d => by
    rw [← en, ← ex]; rfl
  refine W_seq (W_st32_2 (s0 := 1) (s1 := 1536) (fun _ c => I.dg (b * 512 + (r + 1) * 16) c) (fun i c => ?_) fun V1 h1 => ?_)
  · dsimp only
    rw [vDg_apply, hdg, show b * 512 + (r + 1) * 16 = b * 512 + r * 16 + 16 by omega, Arg.dg_add I (b * 512 + r * 16) 16]
    simp only [ep, Nat.zero_add]
  refine W_seq (W_ld3 (s0 := 1) (s1 := 16) (s2 := 1) (fun _ r k => I.r (b * 512 + r)) (fun i r k _ _ _ _ _ _ => ?_) fun rr hrr' => ?_)
  · rw [(h1.fr (S := [cc0_scratch14]) (by decide)).rd rrepV (by decide)]; exact hrr i r k (by omega)
  refine W_seq (W_ld fun _ => ?_)
  refine W_st16_3 (s0 := 1) (s1 := 16) (s2 := 1536) (fun _ t d => I.dx invd (b * 512 + t) d) (fun i t d => ?_) fun V2 h2 => ⟨V1, h1, h2⟩
  dsimp only
  rw [vDx_apply]
  simp only [ep, en, ex, hg, hrr', Nat.zero_add, Arg.dx, Nat.add_assoc]

theorem W_norm (invd : EReal) (b : ℕ) (hb) (V : St Ideal) (hI : Ins I V)
    (hrr : ∀ (i : Fin 2) (r : Fin 512) (c : Fin 128), (i : ℕ) = b % 2 → rd rrepV V (ix3 i r c) = I.r (b * 512 + r))
    (hn : ∀ (i : Fin 2) (t : Fin 512) (d : Fin 1536), (i : ℕ) = b % 2 → rd nV V (ix3 i t d) = I.nn (b * 512 + t) d)
    (hx : ∀ (i : Fin 2) (t : Fin 512) (d : Fin 1536), (i : ℕ) = b % 2 → rd dxhV V (ix3 i t d) = I.dxh (b * 512 + t) d)
    (hd : ∀ i c, rd dgV V (ix2 i c) = I.dg (b * 512) c) :
    W (norm (F := Ideal) invd b hb) (fun _ V' => Fr [cc0_scratch12, cc0_scratch14] V V' ∧ (∀ i c, rd dgV V' (ix2 i c) = I.dg ((b + 1) * 512) c) ∧
      ∀ (i : Fin 2) (t : Fin 512) (d : Fin 1536), (i : ℕ) = b % 2 → rd dxV V' (ix3 i t d) = I.dx invd (b * 512 + t) d) V := by
  unfold norm gammaRow
  refine W_seq (W_ld2 (s0 := 1) (s1 := 1536) (fun _ c => I.g c) (fun r c _ _ _ _ => hI.g r c) fun g hg => ?_)
  refine W_forD (hk := fun V' h => ⟨h.1, fun i c => ?_, fun i t d hi => h.2.2 i t d hi (by omega)⟩)
    (fun k V' => Fr [cc0_scratch12, cc0_scratch14] V V' ∧ (∀ i c, rd dgV V' (ix2 i c) = I.dg (b * 512 + k * 16) c) ∧
      ∀ (i : Fin 2) (t : Fin 512) (d : Fin 1536), (i : ℕ) = b % 2 → (t : ℕ) < 16 * k → rd dxV V' (ix3 i t d) = I.dx invd (b * 512 + t) d)
      ⟨Fr.refl, hd, fun i t d hi ht => by omega⟩ fun k hk V1 h => ?_
  · rw [h.2.1, show b * 512 + 32 * 16 = (b + 1) * 512 by omega]
  refine W_mono _ ?_ _ (W_normRow invd b hb g k hk V1 (fun i c => (hg i c).trans (by simp)) ?_ ?_ ?_ h.2.1)
  · rintro _ V' ⟨V2, h2, h3⟩
    refine ⟨(h.1.trans (h2.fr (by decide))).trans (h3.fr (by decide)), fun i c => ?_, fun i t d hi ht => ?_⟩
    · rw [(h3.fr (S := [cc0_scratch12]) (by decide)).rd dgV (by decide)]
      exact h2.hit i c (by omega) (by omega) (by omega) (by omega)
    · by_cases hin : (t : ℕ) < 16 * k
      · rw [h3.miss i t d (by omega), (h2.fr (S := [cc0_scratch14]) (by decide)).rd dxV (by decide)]; exact h.2.2 i t d hi hin
      · exact h3.hit i t d (by omega) (by omega) (by omega) (by omega) (by omega) (by omega)
  · rw [h.1.rd rrepV (by decide)]; exact hrr
  · rw [h.1.rd nV (by decide)]; exact hn
  · rw [h.1.rd dxhV (by decide)]; exact hx

/-! ## The weights' gradient -/

theorem W_dwUnit (u : ℕ) (hu) (V : St Ideal) (hI : Ins I V) (hx : ∀ d t, rd xtV V (ix2 d t) = I.xt d t) :
    W (dwUnit u hu) (fun _ V' => Upd3 dwV V V' (u % 3) 1 0 512 0 512 (fun _ d n => I.dw (u / 4 * 512 + d) (u % 4 * 512 + n))) V := by
  refine W_seq (W_ld2 (s0 := 512) (s1 := 2048) I.xt (fun r c _ _ _ _ => hx r c) fun a ha => ?_)
  refine W_seq (W_ld2 (s0 := 2048) (s1 := 512) I.dq (fun r c _ _ _ _ => hI.dq r c) fun q hq => ?_)
  refine W_seq (W_ld fun _ => ?_)
  refine W_st32_3 (s0 := 1) (s1 := 512) (s2 := 512) (fun _ d n => I.dw (u / 4 * 512 + d) (u % 4 * 512 + n)) (fun i r k => ?_) fun V' hu => hu
  rw [vDw_apply]
  simp only [ha, hq, Nat.zero_add, Arg.dw]

end Cert.Proof.Body
-- ==== Proof.Whole.lean ====
/- The kernel's whole body over the extended reals: the three results it leaves. -/
module

public import proofs.«01_k».proof.Proof.Stage

@[expose] public section

noncomputable section

namespace Cert.Proof.Body

open Cert.KernelIdeal Cert.KernelIdeal.Gen
open Idealize.ShloMosaic Idealize.SL.Sem

attribute [local irreducible] W loop forN

variable (I : Arg)

/-- What the argument buffers hold. -/
structure Ext (V : St Ideal) : Prop where
  x : ∀ i r k, rd xH V (ix3 i r k) = I.x (i * 512 + r) k
  xs : ∀ i r k, rd xsH V (ix3 i r k) = I.xs (i * 512 + r) k
  r : ∀ i r, rd rstdH V (ix2 i r) = I.r (i * 512 + r)
  g : ∀ i c, rd gammaH V (ix2 i c) = I.g c
  w : ∀ r c, rd wH V (ix2 r c) = I.w r c
  ws : ∀ i c, rd wsH V (ix2 i c) = I.ws c
  dq : ∀ i r k, rd dqH V (ix3 i r k) = I.dq (i * 512 + r) k

/-- Which elements of the arguments' copies have arrived. -/
structure Reg where
  x : ℕ → ℕ → Prop
  xs : Prop
  r : Prop
  g : Prop
  w : ℕ → ℕ → Prop
  ws : Prop
  dq : ℕ → ℕ → Prop

/-- Those elements are the arguments'. -/
structure Part (R : Reg) (V : St Ideal) : Prop where
  ext : Ext I V
  x : ∀ (r : Fin 2048) (c : Fin 1536), R.x r c → rd xV V (ix2 r c) = I.x r c
  xs : R.xs → ∀ i r k, rd xsV V (ix3 i r k) = I.xs (i * 512 + r) k
  r : R.r → ∀ i r, rd rstdV V (ix2 i r) = I.r (i * 512 + r)
  g : R.g → ∀ i c, rd gammaV V (ix2 i c) = I.g c
  w : ∀ (r : Fin 1536) (c : Fin 2048), R.w r c → rd wV V (ix2 r c) = I.w r c
  ws : R.ws → ∀ i c, rd wsV V (ix2 i c) = I.ws c
  dq : ∀ (r : Fin 2048) (c : Fin 2048), R.dq r c → rd dqV V (ix2 r c) = I.dq r c

variable {I}

theorem Ext.fr {S : List (Ref sig .tc)} {V V' : St Ideal} (h : Ext I V) (hf : Fr S V V')
    (hs : ∀ b ∈ [main_arg0, main_arg1, main_arg2, main_v0, main_arg4, main_v1, main_arg6], b ∉ S) : Ext I V' where
  x := by rw [hf.rd xH (hs _ (by decide))]; exact h.x
  xs := by rw [hf.rd xsH (hs _ (by decide))]; exact h.xs
  r := by rw [hf.rd rstdH (hs _ (by decide))]; exact h.r
  g := by rw [hf.rd gammaH (hs _ (by decide))]; exact h.g
  w := by rw [hf.rd wH (hs _ (by decide))]; exact h.w
  ws := by rw [hf.rd wsH (hs _ (by decide))]; exact h.ws
  dq := by rw [hf.rd dqH (hs _ (by decide))]; exact h.dq

variable {R : Reg} {V V' : St Ideal}

theorem Part.setX (h : Part I R V) {a s0 b s1 : ℕ} (hu : Upd2 xV V V' a s0 b s1 I.x) (Q : ℕ → ℕ → Prop)
    (hQ : ∀ r c, c < 1536 → Q r c → (a ≤ r ∧ r < a + s0 ∧ b ≤ c ∧ c < b + s1) ∨ R.x r c) : Part I { R with x := Q } V' := by
  have hf := hu.fr (S := [cc0_scratch0]) (by decide)
  refine ⟨h.ext.fr hf (by decide), fun r c hq => ?_, ?_, ?_, ?_, ?_, ?_, ?_⟩
  · by_cases hin : a ≤ (r : ℕ) ∧ (r : ℕ) < a + s0 ∧ b ≤ (c : ℕ) ∧ (c : ℕ) < b + s1
    · exact hu.hit r c hin.1 hin.2.1 hin.2.2.1 hin.2.2.2
    · rw [hu.miss r c hin]; exact h.x r c ((hQ r c c.isLt hq).resolve_left hin)
  · rw [hf.rd xsV (by decide)]; exact h.xs
  · rw [hf.rd rstdV (by decide)]; exact h.r
  · rw [hf.rd gammaV (by decide)]; exact h.g
  · rw [hf.rd wV (by decide)]; exact h.w
  · rw [hf.rd wsV (by decide)]; exact h.ws
  · rw [hf.rd dqV (by decide)]; exact h.dq

theorem Part.setW (h : Part I R V) {a s0 b s1 : ℕ} (hu : Upd2 wV V V' a s0 b s1 I.w) (Q : ℕ → ℕ → Prop)
    (hQ : ∀ r c, c < 2048 → Q r c → (a ≤ r ∧ r < a + s0 ∧ b ≤ c ∧ c < b + s1) ∨ R.w r c) : Part I { R with w := Q } V' := by
  have hf := hu.fr (S := [cc0_scratch4]) (by decide)
  refine ⟨h.ext.fr hf (by decide), ?_, ?_, ?_, ?_, fun r c hq => ?_, ?_, ?_⟩
  · rw [hf.rd xV (by decide)]; exact h.x
  · rw [hf.rd xsV (by decide)]; exact h.xs
  · rw [hf.rd rstdV (by decide)]; exact h.r
  · rw [hf.rd gammaV (by decide)]; exact h.g
  · by_cases hin : a ≤ (r : ℕ) ∧ (r : ℕ) < a + s0 ∧ b ≤ (c : ℕ) ∧ (c : ℕ) < b + s1
    · exact hu.hit r c hin.1 hin.2.1 hin.2.2.1 hin.2.2.2
    · rw [hu.miss r c hin]; exact h.w r c ((hQ r c c.isLt hq).resolve_left hin)
  · rw [hf.rd wsV (by decide)]; exact h.ws
  · rw [hf.rd dqV (by decide)]; exact h.dq

theorem Part.setDq (h : Part I R V) {a s0 b s1 : ℕ} (hu : Upd2 dqV V V' a s0 b s1 I.dq) (Q : ℕ → ℕ → Prop)
    (hQ : ∀ r c, c < 2048 → Q r c → (a ≤ r ∧ r < a + s0 ∧ b ≤ c ∧ c < b + s1) ∨ R.dq r c) : Part I { R with dq := Q } V' := by
  have hf := hu.fr (S := [cc0_scratch6]) (by decide)
  refine ⟨h.ext.fr hf (by decide), ?_, ?_, ?_, ?_, ?_, ?_, fun r c hq => ?_⟩
  · rw [hf.rd xV (by decide)]; exact h.x
  · rw [hf.rd xsV (by decide)]; exact h.xs
  · rw [hf.rd rstdV (by decide)]; exact h.r
  · rw [hf.rd gammaV (by decide)]; exact h.g
  · rw [hf.rd wV (by decide)]; exact h.w
  · rw [hf.rd wsV (by decide)]; exact h.ws
  · by_cases hin : a ≤ (r : ℕ) ∧ (r : ℕ) < a + s0 ∧ b ≤ (c : ℕ) ∧ (c : ℕ) < b + s1
    · exact hu.hit r c hin.1 hin.2.1 hin.2.2.1 hin.2.2.2
    · rw [hu.miss r c hin]; exact h.dq r c ((hQ r c c.isLt hq).resolve_left hin)

theorem Part.setWs (h : Part I R V) (hu : Upd2 wsV V V' 0 1 0 2048 (fun _ c => I.ws c)) : Part I { R with ws := True } V' := by
  have hf := hu.fr (S := [cc0_scratch5]) (by decide)
  refine ⟨h.ext.fr hf (by decide), ?_, ?_, ?_, ?_, ?_, fun _ i c => hu.hit i c (by omega) (by omega) (by omega) (by omega), ?_⟩
  · rw [hf.rd xV (by decide)]; exact h.x
  · rw [hf.rd xsV (by decide)]; exact h.xs
  · rw [hf.rd rstdV (by decide)]; exact h.r
  · rw [hf.rd gammaV (by decide)]; exact h.g
  · rw [hf.rd wV (by decide)]; exact h.w
  · rw [hf.rd dqV (by decide)]; exact h.dq

theorem Part.setG (h : Part I R V) (hu : Upd2 gammaV V V' 0 1 0 1536 (fun _ c => I.g c)) : Part I { R with g := True } V' := by
  have hf := hu.fr (S := [cc0_scratch3]) (by decide)
  refine ⟨h.ext.fr hf (by decide), ?_, ?_, ?_, fun _ i c => hu.hit i c (by omega) (by omega) (by omega) (by omega), ?_, ?_, ?_⟩
  · rw [hf.rd xV (by decide)]; exact h.x
  · rw [hf.rd xsV (by decide)]; exact h.xs
  · rw [hf.rd rstdV (by decide)]; exact h.r
  · rw [hf.rd wV (by decide)]; exact h.w
  · rw [hf.rd wsV (by decide)]; exact h.ws
  · rw [hf.rd dqV (by decide)]; exact h.dq

theorem Part.setR (h : Part I R V) (hu : Upd2 rstdV V V' 0 4 0 512 (fun i r => I.r (i * 512 + r))) : Part I { R with r := True } V' := by
  have hf := hu.fr (S := [cc0_scratch2]) (by decide)
  refine ⟨h.ext.fr hf (by decide), ?_, ?_, fun _ i c => hu.hit i c (by omega) (by omega) (by omega) (by omega), ?_, ?_, ?_, ?_⟩
  · rw [hf.rd xV (by decide)]; exact h.x
  · rw [hf.rd xsV (by decide)]; exact h.xs
  · rw [hf.rd gammaV (by decide)]; exact h.g
  · rw [hf.rd wV (by decide)]; exact h.w
  · rw [hf.rd wsV (by decide)]; exact h.ws
  · rw [hf.rd dqV (by decide)]; exact h.dq

theorem Part.setXs (h : Part I R V) (hu : Upd3 xsV V V' 0 4 0 512 0 12 (fun i r k => I.xs (i * 512 + r) k)) : Part I { R with xs := True } V' := by
  have hf := hu.fr (S := [cc0_scratch1]) (by decide)
  refine ⟨h.ext.fr hf (by decide), ?_, fun _ i r k => hu.hit i r k (by omega) (by omega) (by omega) (by omega) (by omega) (by omega), ?_, ?_, ?_, ?_, ?_⟩
  · rw [hf.rd xV (by decide)]; exact h.x
  · rw [hf.rd rstdV (by decide)]; exact h.r
  · rw [hf.rd gammaV (by decide)]; exact h.g
  · rw [hf.rd wV (by decide)]; exact h.w
  · rw [hf.rd wsV (by decide)]; exact h.ws
  · rw [hf.rd dqV (by decide)]; exact h.dq

theorem Part.ins (h : Part I R V) (hx : ∀ r c, r < 2048 → R.x r c) (hxs : R.xs) (hr : R.r) (hg : R.g) (hw : ∀ r c, r < 1536 → R.w r c) (hws : R.ws)
    (hdq : ∀ r c, r < 2048 → R.dq r c) : Ins I V :=
  ⟨fun r c => h.x r c (hx r c r.isLt), h.xs hxs, h.r hr, h.g hg, fun r c => h.w r c (hw r c r.isLt), h.ws hws, fun r c => h.dq r c (hdq r c r.isLt)⟩

/-! ## The copies in -/

theorem Ext.small0 (h : Ext I V) : Upd2 wsV V (copied cpSmall0 V) 0 1 0 2048 (fun _ c => I.ws c) :=
  upd2_whole wsV V _ _ h.ws

theorem Ext.small1 (h : Ext I V) : Upd2 gammaV V (copied cpSmall1 V) 0 1 0 1536 (fun _ c => I.g c) :=
  upd2_whole gammaV V _ _ h.g

theorem Ext.small2 (h : Ext I V) : Upd2 rstdV V (copied cpSmall2 V) 0 4 0 512 (fun i r => I.r (i * 512 + r)) :=
  upd2_whole rstdV V _ (fun i r => I.r (i * 512 + r)) h.r

theorem Ext.small3 (h : Ext I V) : Upd3 xsV V (copied cpSmall3 V) 0 4 0 512 0 12 (fun i r k => I.xs (i * 512 + r) k) :=
  upd3_whole xsV V _ (fun i r k => I.xs (i * 512 + r) k) h.xs

theorem Ext.headW (h : Ext I V) (c : ℕ) (hc) : Upd2 wV V (copied (cpHeadW c hc) V) 0 512 (c * 512) 512 I.w :=
  upd2 wV V _ _ _ fun r k => rd_slice2 wH V _ r k I.w fun r c _ _ _ _ => h.w r c

theorem Ext.w' (h : Ext I V) (p : ℕ) (h0 hp) : Upd2 wV V (copied (cpW p h0 hp) V) (p * 512) 512 0 2048 I.w :=
  upd2 wV V _ _ _ fun r k => rd_slice2 wH V _ r k I.w fun r c _ _ _ _ => h.w r c

theorem Ext.headQ (h : Ext I V) (c : ℕ) (hc) : Upd2 dqV V (copied (cpHeadQ c hc) V) 0 512 (c * 512) 512 I.dq :=
  upd2 dqV V _ _ _ fun r k =>
    (rd_slice3 dqH V _ _ r k (fun i r k => I.dq (i * 512 + r) k) fun i r k _ _ _ _ _ => h.dq i r k).trans (by rw [Nat.zero_mul, Nat.zero_add, Nat.zero_add])

theorem Ext.dq' (h : Ext I V) (b : ℕ) (h0 hb) : Upd2 dqV V (copied (cpDq b h0 hb) V) (b * 512) 512 0 2048 I.dq :=
  upd2 dqV V _ _ _ fun r k =>
    (rd_slice3 dqH V _ _ r k (fun i r k => I.dq (i * 512 + r) k) fun i r k _ _ _ _ _ => h.dq i r k).trans (by simp)

theorem Ext.x' (h : Ext I V) (b : ℕ) (hb) : Upd2 xV V (copied (cpX b hb) V) (b * 512) 512 0 1536 I.x :=
  upd2 xV V _ _ _ fun r k =>
    (rd_slice3 xH V _ _ r k (fun i r k => I.x (i * 512 + r) k) fun i r k _ _ _ _ _ => h.x i r k).trans (by simp)

theorem W_startIn (h : Ext I V) : W startIn (fun _ V' => Ins I V') V := by
  have p0 : Part I ⟨fun _ _ => False, False, False, False, fun _ _ => False, False, fun _ _ => False⟩ V :=
    ⟨h, fun _ _ h => h.elim, fun h => h.elim, fun h => h.elim, fun h => h.elim, fun _ _ h => h.elim, fun h => h.elim, fun _ _ h => h.elim⟩
  unfold startIn
  refine W_seq (W_start ?_)
  have p1 := p0.setWs h.small0
  refine W_then (W_forN (fun k V' => Part I ⟨fun _ _ => False, False, False, False, fun r c => r < 512 ∧ c < 512 * k, True, fun r c => r < 512 ∧ c < 512 * k⟩ V')
    (?_ : Part I _ _) fun k hk V1 h1 => ?_) fun _ V1 p2 => ?_
  · exact ⟨p1.ext, p1.x, p1.xs, p1.r, p1.g, fun r c h => by omega, p1.ws, fun r c h => by omega⟩
  · refine W_seq (W_start (W_start ?_))
    have q1 := h1.setW (h1.ext.headW k hk) (fun r c => r < 512 ∧ c < 512 * (k + 1)) (fun r c _ h => by dsimp only; omega)
    exact q1.setDq (q1.ext.headQ k hk) (fun r c => r < 512 ∧ c < 512 * (k + 1)) (fun r c _ h => by dsimp only; omega)
  refine W_seq (W_start ?_)
  have p3 := p2.setG p2.ext.small1
  refine W_seq (W_start ?_)
  have p4 := p3.setR p3.ext.small2
  refine W_seq (W_start ?_)
  have p5 := p4.setW (p4.ext.w' 1 (by omega) (by omega)) (fun r c => r < 1024) (fun r c _ h => by dsimp only; omega)
  refine W_seq (W_start ?_)
  have p6 := p5.setW (p5.ext.w' 2 (by omega) (by omega)) (fun r c => r < 1536) (fun r c _ h => by dsimp only; omega)
  refine W_seq (W_start ?_)
  have p7 := p6.setXs p6.ext.small3
  refine W_seq (W_start ?_)
  have p8 := p7.setX (p7.ext.x' 0 (by omega)) (fun r c => r < 512 * (0 + 1)) (fun r c _ h => by dsimp only; omega)
  have p9 : Part I ⟨fun r _ => r < 512 * (0 + 1), True, True, True, fun r _ => r < 1536, True, fun r _ => r < 512 * (0 + 1)⟩ _ :=
    ⟨p8.ext, p8.x, p8.xs, p8.r, p8.g, p8.w, p8.ws, fun r c h => p8.dq r c ⟨by omega, by omega⟩⟩
  refine W_forD (fun k V' => Part I ⟨fun r _ => r < 512 * (k + 1), True, True, True, fun r _ => r < 1536, True, fun r _ => r < 512 * (k + 1)⟩ V')
    (fun V' h => h.ins (fun r c h => by dsimp only; omega) trivial trivial trivial (fun r c h => h) trivial (fun r c h => by dsimp only; omega)) p9 fun k hk V2 h2 => ?_
  refine W_seq (W_start (W_start ?_))
  have q1 := h2.setDq (h2.ext.dq' (k + 1) (by omega) (by omega)) (fun r _ => r < 512 * (k + 1 + 1)) (fun r c _ h => by dsimp only; omega)
  exact q1.setX (q1.ext.x' (k + 1) (by omega)) (fun r _ => r < 512 * (k + 1 + 1)) (fun r c _ h => by dsimp only; omega)

end Cert.Proof.Body
-- ==== Proof.Results.lean ====
/- The kernel's whole body over the extended reals, from the copies in to the three results. -/
module

public import proofs.«01_k».proof.Proof.Whole

@[expose] public section

noncomputable section

namespace Cert.Proof.Body

open Cert.KernelIdeal Cert.KernelIdeal.Gen
open Idealize.ShloMosaic Idealize.SL.Sem

attribute [local irreducible] W loop forN

variable (I : Arg) (inv : EReal)

/-- What holds before batch `b` is normalized. -/
structure Inv (b : ℕ) (V : St Ideal) : Prop where
  ins : Ins I V
  wb : ∀ (r : Fin 1536) (c : Fin 2048), rd wbV V (ix2 r c) = I.wb r c
  dxh : ∀ (i : Fin 2) (t : Fin 512) (d : Fin 1536), (i : ℕ) = b % 2 → rd dxhV V (ix3 i t d) = I.dxh (b * 512 + t) d
  dg : ∀ i c, rd dgV V (ix2 i c) = I.dg (b * 512) c
  xt : ∀ (d : Fin 1536) (t : Fin 2048), (t : ℕ) < b * 512 → rd xtV V (ix2 d t) = I.xt d t
  out : ∀ (i : Fin 4) (t : Fin 512) (d : Fin 1536), (i : ℕ) < b → rd dxH V (ix3 i t d) = I.dx inv (i * 512 + t) d

variable {I inv} {V : St Ideal}

theorem W_first (h : Ins I V) : W first (fun _ V' => Inv I inv 0 V') V := by
  unfold first
  refine W_seq (W_wait (W_then (W_zeroDg (I := I) V) fun _ V1 h1 => ?_))
  have i1 := h.fr h1.1 (by decide)
  refine W_then (W_forN (fun k V' => Fr [cc0_scratch7] V1 V' ∧
    ∀ (r : Fin 1536) (c : Fin 2048), (r : ℕ) < 512 → (c : ℕ) < 512 * k → rd wbV V' (ix2 r c) = I.wb r c)
    ⟨Fr.refl, fun r c _ _ => by omega⟩ fun k hk V2 h2 => ?_) fun _ V2 h2 => ?_
  · refine W_seq (W_wait (W_seq (W_wait (W_mono _ (fun _ V' hu => ⟨h2.1.trans (hu.fr (by decide)), fun r c hr hc => ?_⟩) _
      (W_dequant 0 k _ _ V2 (i1.fr h2.1 (by decide)))))))
    by_cases hin : (c : ℕ) < 512 * k
    · rw [hu.miss r c (by omega)]; exact h2.2 r c hr hin
    · exact hu.hit r c (by omega) (by omega) (by omega) (by omega)
  have i2 := i1.fr h2.1 (by decide)
  refine W_then (W_dxhat 0 0 (by omega) (by omega) V2 i2 fun r c _ hr => h2.2 r c (by omega) (by omega)) fun _ V3 h3 => ?_
  have f3 := h3.fr (S := [cc0_scratch10]) (by decide)
  refine W_forD (fun k V' => Fr [cc0_scratch7, cc0_scratch10] V1 V' ∧
      (∀ (r : Fin 1536) (c : Fin 2048), (r : ℕ) < 512 * (k + 1) → rd wbV V' (ix2 r c) = I.wb r c) ∧
      (∀ (i : Fin 2) (t : Fin 512) (d : Fin 1536), (i : ℕ) = 0 → (d : ℕ) < 512 * (k + 1) → rd dxhV V' (ix3 i t d) = I.dxh t d))
    (fun V' h' => ?_) ⟨(h2.1.mono (by decide)).trans (f3.mono (by decide)), ?_, ?_⟩ fun k hk V4 h4 => ?_
  · refine ⟨i1.fr h'.1 (by decide), fun r c => h'.2.1 r c (by omega), fun i t d hi => ?_, ?_, fun d t ht => by omega, fun i t d hi => by omega⟩
    · rw [h'.2.2 i t d hi (by omega)]; simp
    · rw [h'.1.rd dgV (by decide)]; simpa using h1.2
  · rw [f3.rd wbV (by decide)]; exact fun r c hr => h2.2 r c (by omega) (by omega)
  · intro i t d hi hd
    rw [h3.hit i t d (by omega) (by omega) (by omega) (by omega) (by omega) (by omega)]; simp
  refine W_seq (W_wait (W_then (W_forN (fun c V' => Fr [cc0_scratch7] V4 V' ∧
    ∀ (r : Fin 1536) (q : Fin 2048), ((r : ℕ) < 512 * (k + 1) ∨ (r : ℕ) < 512 * (k + 1 + 1) ∧ (q : ℕ) < 512 * c) → rd wbV V' (ix2 r q) = I.wb r q)
    ⟨Fr.refl, fun r q hr => h4.2.1 r q (by omega)⟩ fun c hc V5 h5 => ?_) fun _ V5 h5 => ?_))
  · refine W_mono _ (fun _ V' hu => ⟨h5.1.trans (hu.fr (by decide)), fun r q hr => ?_⟩) _
      (W_dequant (k + 1) c _ _ V5 ((i1.fr h4.1 (by decide)).fr h5.1 (by decide)))
    by_cases hin : (r : ℕ) < 512 * (k + 1) ∨ (r : ℕ) < 512 * (k + 1 + 1) ∧ (q : ℕ) < 512 * c
    · rw [hu.miss r q (by omega)]; exact h5.2 r q hin
    · exact hu.hit r q (by omega) (by omega) (by omega) (by omega)
  refine W_mono _ (fun _ V' hu => ⟨(h4.1.trans (h5.1.mono (by decide))).trans (hu.fr (by decide)), ?_, fun i t d hi hd => ?_⟩) _
    (W_dxhat 0 (k + 1) (by omega) (by omega) V5 ((i1.fr h4.1 (by decide)).fr h5.1 (by decide)) fun r c _ hr => h5.2 r c (by omega))
  · rw [(hu.fr (S := [cc0_scratch10]) (by decide)).rd wbV (by decide)]; exact fun r c hr => h5.2 r c (by omega)
  · by_cases hin : (d : ℕ) < 512 * (k + 1)
    · rw [hu.miss i t d (by omega), h5.1.rd dxhV (by decide)]; exact h4.2.2 i t d hi hin
    · rw [hu.hit i t d (by omega) (by omega) (by omega) (by omega) (by omega) (by omega)]; simp

/-- Batch `b` of the input gradient, out. -/
theorem dxOut (b : ℕ) (hb) (h : ∀ (i : Fin 2) (t : Fin 512) (d : Fin 1536), (i : ℕ) = b % 2 → rd dxV V (ix3 i t d) = I.dx inv (b * 512 + t) d) :
    Upd3 dxH V (copied (cpDx b hb) V) b 1 0 512 0 1536 (fun i t d => I.dx inv (i * 512 + t) d) :=
  upd3_squeeze dxH V _ _ _ (fun i t d => I.dx inv (i * 512 + t) d) fun r k =>
    rd_slice3 dxV V _ _ r k (fun _ t d => I.dx inv (b * 512 + t) d) fun i r k hi _ _ _ _ => h i r k hi

/-- Tile `u` of the weights' gradient, out. -/
theorem dwOut (u : ℕ) (hu) (h : ∀ (i : Fin 3) (d : Fin 512) (n : Fin 512), (i : ℕ) = u % 3 → rd dwV V (ix3 i d n) = I.dw (u / 4 * 512 + d) (u % 4 * 512 + n)) :
    Upd2 dwH V (copied (cpDw u hu) V) (u / 4 * 512) 512 (u % 4 * 512) 512 I.dw :=
  upd2 dwH V _ _ _ fun r k =>
    (rd_slice3 dwV V _ _ r k (fun _ d n => I.dw (u / 4 * 512 + d) (u % 4 * 512 + n)) fun i r k hi _ _ _ _ => h i r k hi).trans (by simp)

/-- The normalization weights' gradient, out. -/
theorem dgOut (h : ∀ i c, rd dgV V (ix2 i c) = I.dg 2048 c) : Upd2 dgH V (copied cpDg V) 0 1 0 1536 (fun _ c => I.dg 2048 c) :=
  upd2_whole dgH V _ _ h

theorem W_batch (b : ℕ) (hb) (w : P Ideal PUnit) (hw : ∀ (Φ : PUnit → St Ideal → Prop) V, Φ ⟨⟩ V → W w Φ V) (h : Inv I inv b V) :
    W (batch (F := Ideal) inv b hb w) (fun _ V' => Inv I inv (b + 1) V') V := by
  unfold batch
  refine W_seq (W_wait (W_seq (W_wait (W_seq (hw _ _ ?_)))))
  refine W_then (W_prep b (by omega) V h.ins h.xt) fun _ V1 h1 => ?_
  have i1 := h.ins.fr h1.1 (by decide)
  refine W_then (W_forN (fun k V' => Fr [cc0_scratch10] V1 V' ∧
      (∀ (i : Fin 2) (t : Fin 512) (d : Fin 1536), (i : ℕ) = b % 2 → rd dxhV V' (ix3 i t d) = I.dxh (b * 512 + t) d) ∧
      (∀ (i : Fin 2) (t : Fin 512) (d : Fin 1536), (i : ℕ) = (b + 1) % 2 → (d : ℕ) < 512 * k → rd dxhV V' (ix3 i t d) = I.dxh ((b + 1) * 512 + t) d))
    ⟨Fr.refl, by rw [h1.1.rd dxhV (by decide)]; exact h.dxh, fun i t d _ _ => by omega⟩ fun k hk V2 h2 => ?_) fun _ V2 h2 => ?_
  · refine W_mono _ (fun _ V' hu => ⟨h2.1.trans (hu.fr (by decide)), fun i t d hi => ?_, fun i t d hi hd => ?_⟩) _
      (W_dxhat (b + 1) k _ _ V2 (i1.fr h2.1 (by decide)) fun r c _ _ => ?_)
    · rw [hu.miss i t d (by omega)]; exact h2.2.1 i t d hi
    · by_cases hin : (d : ℕ) < 512 * k
      · rw [hu.miss i t d (by omega)]; exact h2.2.2 i t d hi hin
      · exact hu.hit i t d (by omega) (by omega) (by omega) (by omega) (by omega) (by omega)
    · rw [h2.1.rd wbV (by decide), h1.1.rd wbV (by decide)]; exact h.wb r c
  have i2 := i1.fr h2.1 (by decide)
  refine W_then (W_norm (I := I) inv b (by omega) V2 i2 ?_ ?_ h2.2.1 ?_) fun _ V3 h3 => W_start ?_
  · rw [h2.1.rd rrepV (by decide)]; exact h1.2.1
  · rw [h2.1.rd nV (by decide)]; exact h1.2.2.1
  · rw [h2.1.rd dgV (by decide), h1.1.rd dgV (by decide)]; exact h.dg
  have hu := dxOut b (by omega) h3.2.2
  have f := hu.fr (S := [main_v2_0]) (by decide)
  refine ⟨(i2.fr h3.1 (by decide)).fr f (by decide), ?_, ?_, ?_, ?_, fun i t d hi => ?_⟩
  · rw [f.rd wbV (by decide), h3.1.rd wbV (by decide), h2.1.rd wbV (by decide), h1.1.rd wbV (by decide)]; exact h.wb
  · rw [f.rd dxhV (by decide), h3.1.rd dxhV (by decide)]; exact fun i t d hi => h2.2.2 i t d hi (by omega)
  · rw [f.rd dgV (by decide)]; exact h3.2.1
  · rw [f.rd xtV (by decide), h3.1.rd xtV (by decide), h2.1.rd xtV (by decide)]; exact h1.2.2.2
  · by_cases hin : (i : ℕ) < b
    · rw [hu.miss i t d (by omega), h3.1.rd dxH (by decide), h2.1.rd dxH (by decide), h1.1.rd dxH (by decide)]; exact h.out i t d hin
    · exact hu.hit i t d (by omega) (by omega) (by omega) (by omega) (by omega) (by omega)

variable (I inv) in
/-- The three results. -/
structure Fin3 (V : St Ideal) : Prop where
  dx : ∀ (i : Fin 4) (t : Fin 512) (d : Fin 1536), rd dxH V (ix3 i t d) = I.dx inv (i * 512 + t) d
  dw : ∀ (d : Fin 1536) (n : Fin 2048), rd dwH V (ix2 d n) = I.dw d n
  dg : ∀ (i : Fin 1) (d : Fin 1536), rd dgH V (ix2 i d) = I.dg 2048 d

variable (I inv) in
/-- The last stretch, `u` tiles of the weights' gradient out. -/
structure Tail (u : ℕ) (V : St Ideal) : Prop where
  ins : Ins I V
  xt : ∀ (d : Fin 1536) (t : Fin 2048), rd xtV V (ix2 d t) = I.xt d t
  dx : ∀ (i : Fin 4) (t : Fin 512) (d : Fin 1536), rd dxH V (ix3 i t d) = I.dx inv (i * 512 + t) d
  dw : ∀ (d : Fin 1536) (n : Fin 2048), (d : ℕ) / 512 * 4 + (n : ℕ) / 512 < u → rd dwH V (ix2 d n) = I.dw d n
  dg : ∀ (i : Fin 1) (d : Fin 1536), rd dgH V (ix2 i d) = I.dg 2048 d

theorem Tail.out {u : ℕ} (h : Tail I inv u V) (hu)
    (hw : ∀ (i : Fin 3) (d : Fin 512) (n : Fin 512), (i : ℕ) = u % 3 → rd dwV V (ix3 i d n) = I.dw (u / 4 * 512 + d) (u % 4 * 512 + n)) :
    Tail I inv (u + 1) (copied (cpDw u hu) V) := by
  have ho := dwOut u hu hw
  have f := ho.fr (S := [main_v2_1]) (by decide)
  refine ⟨h.ins.fr f (by decide), ?_, ?_, fun d n hdn => ?_, ?_⟩
  · rw [f.rd xtV (by decide)]; exact h.xt
  · rw [f.rd dxH (by decide)]; exact h.dx
  · by_cases hin : (d : ℕ) / 512 * 4 + (n : ℕ) / 512 < u
    · rw [ho.miss d n (by omega)]; exact h.dw d n hin
    · exact ho.hit d n (by omega) (by omega) (by omega) (by omega)
  · rw [f.rd dgH (by decide)]; exact h.dg

theorem W_dwOut (u : ℕ) (hu) (h : Tail I inv u V) :
    W (do dwUnit u hu; start (cpDw u hu)) (fun _ V' => Tail I inv (u + 1) V') V := by
  refine W_then (W_dwUnit u hu V h.ins h.xt) fun _ V1 h1 => W_start ?_
  have f := h1.fr (S := [cc0_scratch13]) (by decide)
  have t1 : Tail I inv u V1 := by
    refine ⟨h.ins.fr f (by decide), ?_, ?_, ?_, ?_⟩
    · rw [f.rd xtV (by decide)]; exact h.xt
    · rw [f.rd dxH (by decide)]; exact h.dx
    · rw [f.rd dwH (by decide)]; exact h.dw
    · rw [f.rd dgH (by decide)]; exact h.dg
  exact t1.out hu fun i d n hi => h1.hit i d n (by omega) (by omega) (by omega) (by omega) (by omega) (by omega)

theorem W_last (h : Inv I inv 3 V) : W (last (F := Ideal) inv) (fun _ V' => Fin3 I inv V') V := by
  unfold last
  refine W_then (W_prep 3 (by omega) V h.ins h.xt) fun _ V1 h1 => ?_
  have i1 := h.ins.fr h1.1 (by decide)
  have x1 : ∀ (d : Fin 1536) (t : Fin 2048), rd xtV V1 (ix2 d t) = I.xt d t := fun d t => h1.2.2.2 d t (by omega)
  refine W_seq (W_wait (W_then (W_dwUnit 0 (by omega) V1 i1 x1) fun _ V2 h2 => ?_))
  have f2 := h2.fr (S := [cc0_scratch13]) (by decide)
  have i2 := i1.fr f2 (by decide)
  refine W_then (W_norm (I := I) inv 3 (by omega) V2 i2 ?_ ?_ ?_ ?_) fun _ V3 h3 => W_seq (W_start ?_)
  · rw [f2.rd rrepV (by decide)]; exact h1.2.1
  · rw [f2.rd nV (by decide)]; exact h1.2.2.1
  · rw [f2.rd dxhV (by decide), h1.1.rd dxhV (by decide)]; exact h.dxh
  · rw [f2.rd dgV (by decide), h1.1.rd dgV (by decide)]; exact h.dg
  have u4 := dxOut 3 (by omega) h3.2.2
  generalize copied (cpDx 3 _) V3 = V4 at u4 ⊢
  have f4 := u4.fr (S := [main_v2_0]) (by decide)
  refine W_seq (W_start ?_)
  have u5 := dgOut (I := I) (V := V4) (by rw [f4.rd dgV (by decide)]; exact h3.2.1)
  generalize copied cpDg V4 = V5 at u5 ⊢
  have f5 := u5.fr (S := [main_v2_2]) (by decide)
  have t5 : Tail I inv 0 V5 := by
    refine ⟨((i2.fr h3.1 (by decide)).fr f4 (by decide)).fr f5 (by decide), ?_, ?_, fun d n hdn => by omega,
      fun i d => u5.hit i d (by omega) (by omega) (by omega) (by omega)⟩
    · rw [f5.rd xtV (by decide), f4.rd xtV (by decide), h3.1.rd xtV (by decide), f2.rd xtV (by decide)]; exact x1
    · rw [f5.rd dxH (by decide)]; intro i t d
      by_cases hin : (i : ℕ) < 3
      · rw [u4.miss i t d (by omega), h3.1.rd dxH (by decide), f2.rd dxH (by decide), h1.1.rd dxH (by decide)]; exact h.out i t d hin
      · exact u4.hit i t d (by omega) (by omega) (by omega) (by omega) (by omega) (by omega)
  refine W_seq (W_start ?_)
  have t6 := t5.out (by omega) (by
    rw [f5.rd dwV (by decide), f4.rd dwV (by decide), h3.1.rd dwV (by decide)]
    exact fun i d n hi => h2.hit i d n (by omega) (by omega) (by omega) (by omega) (by omega) (by omega))
  refine W_then (W_forN (fun k V' => Tail I inv (k + 1) V') t6 fun k hk V7 h7 => W_dwOut (k + 1) (by omega) h7) fun _ V7 h7 => ?_
  refine W_then (W_forN (fun k V' => Tail I inv (k + 3) V') h7 fun k hk V8 h8 => W_seq (W_wait (W_dwOut (k + 3) (by omega) h8))) fun _ V8 h8 => ?_
  refine W_seq (W_wait (W_seq (W_wait (W_seq (W_wait ?_)))))
  exact W_forD (fun _ V' => Tail I inv 12 V') (fun V' h' => ⟨h'.dx, fun d n => h'.dw d n (by omega), h'.dg⟩) h8 fun k hk V9 h9 => W_wait h9

theorem W_body (h : Ext I V) : W (body (F := Ideal) inv) (fun _ V' => Fin3 I inv V') V := by
  unfold body
  refine W_then (W_startIn h) fun _ V1 h1 => ?_
  refine W_then (W_first (inv := inv) h1) fun _ V2 h2 => ?_
  unfold waitIn
  refine W_seq (W_seq (W_wait (W_seq (W_wait (W_seq (W_wait (W_wait ?_)))))))
  refine W_then (W_batch 0 _ _ (fun _ _ h => W_pure h) h2) fun _ V3 h3 => ?_
  refine W_then (W_batch 1 _ _ (fun _ _ h => W_pure h) h3) fun _ V4 h4 => ?_
  refine W_then (W_batch 2 _ _ (fun _ _ h => W_wait h) h4) fun _ V5 h5 => ?_
  exact W_last h5

end Cert.Proof.Body
-- ==== Proof.Reference.lean ====
/- What the reference computes, read by its coordinates. -/
module

public import proofs.«01_k».proof.Proof.Gen.ReferenceIdeal.Value
public import proofs.«01_k».proof.Proof.Target
public import Idealize.ShloMosaic.Lib.Pointwise
public import Idealize.ShloMosaic.Lib.Pipeline.ValueKit.Point

@[expose] public section

noncomputable section

namespace Cert.Proof.Ref

open Idealize.ShloMosaic Idealize.ShloMosaic.TcCoe Idealize.SL.Sem Cert.ReferenceIdeal Cert.ReferenceIdeal.Gen

/-! ## The arithmetic -/

section

variable (I : Arg) (x0 : Vec Ideal S4x512x1536 .fp8e4m3) (x1 : Vec Ideal S4x512x12 .f32) (x2 : Vec Ideal S4x512 .f32)
  (x3 : Vec Ideal S1x1536 .f32) (x4 : Vec Ideal S1536x2048 .fp8e4m3) (x5 : Vec Ideal S1x2048 .f32) (x6 : Vec Ideal S4x512x2048 .bf16)

/-- What the reference's blocks hold. -/
structure Blk : Prop where
  x : ∀ i r k, x0 (ix3 i r k) = I.x (i * 512 + r) k
  xs : ∀ i r k, x1 (ix3 i r k) = I.xs (i * 512 + r) k
  r : ∀ i r, x2 (ix2 i r) = I.r (i * 512 + r)
  g : ∀ i c, x3 (ix2 i c) = I.g c
  w : ∀ r c, x4 (ix2 r c) = I.w r c
  ws : ∀ i c, x5 (ix2 i c) = I.ws c
  dq : ∀ i r k, x6 (ix3 i r k) = I.dq (i * 512 + r) k

variable {I x0 x1 x2 x3 x4 x5 x6} (h : Blk I x0 x1 x2 x3 x4 x5 x6)
include h

theorem pay2_apply (t : Fin 2048) : k0_pay2 (F := Ideal) x2 (ix2 t 0) = I.r t := by
  pointwise [k0_pay2]
  rw [h.r]
  dsimp only
  rw [Nat.div_add_mod']

theorem pay9_apply (t : Fin 2048) (d : Fin 1536) : k0_pay9 (F := Ideal) x3 (ix2 t d) = I.g d := by
  pointwise [k0_pay9, k0_pay3]
  rw [h.g]

theorem pay5_apply (t : Fin 2048) (d : Fin 1536) : k0_pay5 (F := Ideal) x2 x0 x1 (ix2 t d) = I.nn t d := by
  pointwise [k0_pay5, k0_pay2]
  rw [h.x, h.xs, h.r]
  dsimp only
  rw [Nat.div_add_mod', mul_assoc]
  rfl

theorem pay7_apply (t : Fin 2048) (d : Fin 1536) : k0_pay7 (F := Ideal) x6 x4 x5 (ix2 t d) = I.dxh t d := by
  pointwise [k0_pay7, k0_pay4]
  refine Finset.sum_congr rfl fun n _ => ?_
  rw [h.dq, h.w, h.ws]
  dsimp only
  rw [Nat.div_add_mod']
  rfl

theorem pay6_apply (d : Fin 1536) (n : Fin 2048) : k0_pay6 (F := Ideal) x2 x3 x6 x0 x1 (ix2 d n) = I.dw d n := by
  pointwise [k0_pay6, k0_pay4, k0_pay3]
  refine Finset.sum_congr rfl fun t _ => ?_
  rw [h.dq, pay5_apply h, h.g]
  dsimp only
  rw [Nat.div_add_mod']
  rfl

theorem pay8_apply (i : Fin 1) (d : Fin 1536) : k0_pay8 (F := Ideal) x2 x6 x0 x1 x4 x5 (ix2 i d) = I.dg 2048 d := by
  obtain rfl : i = 0 := Subsingleton.elim _ _
  pointwise [k0_pay8]
  unfold Arg.dg
  rw [Finset.sum_range]
  refine Finset.sum_congr rfl fun t _ => ?_
  rw [pay5_apply h, pay7_apply h]

omit h in
theorem div_features (x : EReal) : Ideal.div x (Ideal.ofBits .f32 0x44C00000#32) = x * ((1 / 1536 : ℝ) : EReal) := by
  have e : Ideal.ofBits .f32 0x44C00000#32 = ((1536 : ℝ) : EReal) := by
    simp [Ideal.ofBits, Ideal.ieee, -EReal.coe_mul]; norm_num
  rw [e, Ideal.div, if_neg (by norm_num), ← EReal.coe_inv, one_div]

theorem pay1_apply (i : Fin 4) (r : Fin 512) (d : Fin 1536) :
    k0_pay1 (F := Ideal) (k0_pay2 x2) (k0_pay5 x2 x0 x1) (k0_pay7 x6 x4 x5) (k0_pay9 x3) (ix3 i r d)
      = I.dx ((1 / 1536 : ℝ) : EReal) (i * 512 + r) d := by
  pointwise [k0_pay1]
  rw [pay2_apply h, pay5_apply h, pay7_apply h, pay9_apply h, div_features]
  unfold Arg.dx
  dsimp only
  congr 4
  refine Finset.sum_congr rfl fun k _ => ?_
  rw [pay5_apply h, pay7_apply h, pay9_apply h, mul_right_comm]

end

/-! ## The blocks are the arrays -/

variable (m : (ℓ : Loc nD τ sig) → Buf (Elt Ideal) ℓ) (c : Dev nD)

theorem at0 : ∀ (t : Fin cfg0.N) (a : Fin 3), win0_0.index t a = 0 := (by decide +kernel : ∀ (t : Fin grid0.N) (a : Fin 3), win0_0.index t a = 0)
theorem at1 : ∀ (t : Fin cfg0.N) (a : Fin 3), win0_1.index t a = 0 := (by decide +kernel : ∀ (t : Fin grid0.N) (a : Fin 3), win0_1.index t a = 0)
theorem at2 : ∀ (t : Fin cfg0.N) (a : Fin 2), win0_2.index t a = 0 := (by decide +kernel : ∀ (t : Fin grid0.N) (a : Fin 2), win0_2.index t a = 0)
theorem at3 : ∀ (t : Fin cfg0.N) (a : Fin 2), win0_3.index t a = 0 := (by decide +kernel : ∀ (t : Fin grid0.N) (a : Fin 2), win0_3.index t a = 0)
theorem at4 : ∀ (t : Fin cfg0.N) (a : Fin 2), win0_4.index t a = 0 := (by decide +kernel : ∀ (t : Fin grid0.N) (a : Fin 2), win0_4.index t a = 0)
theorem at5 : ∀ (t : Fin cfg0.N) (a : Fin 2), win0_5.index t a = 0 := (by decide +kernel : ∀ (t : Fin grid0.N) (a : Fin 2), win0_5.index t a = 0)
theorem at6 : ∀ (t : Fin cfg0.N) (a : Fin 3), win0_6.index t a = 0 := (by decide +kernel : ∀ (t : Fin grid0.N) (a : Fin 3), win0_6.index t a = 0)
theorem at7 : ∀ (t : Fin cfg0.N) (a : Fin 3), win0_7.index t a = 0 := (by decide +kernel : ∀ (t : Fin grid0.N) (a : Fin 3), win0_7.index t a = 0)
theorem at8 : ∀ (t : Fin cfg0.N) (a : Fin 2), win0_8.index t a = 0 := (by decide +kernel : ∀ (t : Fin grid0.N) (a : Fin 2), win0_8.index t a = 0)
theorem at9 : ∀ (t : Fin cfg0.N) (a : Fin 2), win0_9.index t a = 0 := (by decide +kernel : ∀ (t : Fin grid0.N) (a : Fin 2), win0_9.index t a = 0)

theorem blk0 (t : Fin cfg0.N) (i : Fin 4) (r : Fin 512) (k : Fin 1536) : iblk m c 0 t (ix3 i r k) = m (c, Proc.devRef .tc main_arg0) (ix3 i r k) := by
  blk_ext! [iblk, V, at0 t]
theorem blk1 (t : Fin cfg0.N) (i : Fin 4) (r : Fin 512) (k : Fin 12) : iblk m c 1 t (ix3 i r k) = m (c, Proc.devRef .tc main_arg1) (ix3 i r k) := by
  blk_ext! [iblk, V, at1 t]
theorem blk2 (t : Fin cfg0.N) (i : Fin 4) (r : Fin 512) : iblk m c 2 t (ix2 i r) = m (c, Proc.devRef .tc main_arg2) (ix2 i r) := by
  blk_ext! [iblk, V, at2 t]
theorem blk3 (t : Fin cfg0.N) (i : Fin 1) (d : Fin 1536) : iblk m c 3 t (ix2 i d) = m (c, Proc.devRef .tc main_arg3) (ix1 d) := by
  blk_ext! [iblk, V, at3 t]
theorem blk4 (t : Fin cfg0.N) (d : Fin 1536) (n : Fin 2048) : iblk m c 4 t (ix2 d n) = m (c, Proc.devRef .tc main_arg4) (ix2 d n) := by
  blk_ext! [iblk, V, at4 t]
theorem blk5 (t : Fin cfg0.N) (i : Fin 1) (n : Fin 2048) : iblk m c 5 t (ix2 i n) = m (c, Proc.devRef .tc main_arg5) (ix1 n) := by
  blk_ext! [iblk, V, at5 t]
theorem blk6 (t : Fin cfg0.N) (i : Fin 4) (r : Fin 512) (k : Fin 2048) : iblk m c 6 t (ix3 i r k) = m (c, Proc.devRef .tc main_arg6) (ix3 i r k) := by
  blk_ext! [iblk, V, at6 t]

section

variable (x0 : Vec Ideal S4x512x1536 .fp8e4m3) (x1 : Vec Ideal S4x512x12 .f32) (x2 : Vec Ideal S4x512 .f32)
  (x3 : Vec Ideal S1x1536 .f32) (x4 : Vec Ideal S1536x2048 .fp8e4m3) (x5 : Vec Ideal S1x2048 .f32) (x6 : Vec Ideal S4x512x2048 .bf16)

theorem out7 : out0_7 x0 x1 x2 x3 x4 x5 x6 = k0_pay1 (F := Ideal) (k0_pay2 x2) (k0_pay5 x2 x0 x1) (k0_pay7 x6 x4 x5) (k0_pay9 x3) := by
  refine (View.canon_cons_unit_lit _ _ [] (by decide)).trans ?_
  rw [View.ld_unit_lit _ x0 (by decide), View.ld_unit_lit _ x1 (by decide), View.ld_unit_lit _ x2 (by decide), View.ld_unit_lit _ x3 (by decide),
    View.ld_unit_lit _ x4 (by decide), View.ld_unit_lit _ x5 (by decide), View.ld_unit_lit _ x6 (by decide)]

theorem out8 : out0_8 x0 x1 x2 x3 x4 x5 x6 = k0_pay6 (F := Ideal) x2 x3 x6 x0 x1 := by
  refine (View.canon_cons_unit_lit _ _ [] (by decide)).trans ?_
  rw [View.ld_unit_lit _ x0 (by decide), View.ld_unit_lit _ x1 (by decide), View.ld_unit_lit _ x2 (by decide), View.ld_unit_lit _ x3 (by decide),
    View.ld_unit_lit _ x6 (by decide)]

theorem out9 : out0_9 x0 x1 x2 x3 x4 x5 x6 = k0_pay8 (F := Ideal) x2 x6 x0 x1 x4 x5 := by
  refine (View.canon_cons_unit_lit _ _ [] (by decide)).trans ?_
  rw [View.ld_unit_lit _ x0 (by decide), View.ld_unit_lit _ x1 (by decide), View.ld_unit_lit _ x2 (by decide),
    View.ld_unit_lit _ x4 (by decide), View.ld_unit_lit _ x5 (by decide), View.ld_unit_lit _ x6 (by decide)]

end

theorem read7 (X : S4x512x1536.Idx → Elt Ideal (.bf16 : EltTy)) (t : Fin cfg0.N) (i : Fin 4) (r : Fin 512) (k : Fin 1536) :
    ((cfg0.win 7).blk t).view.read (Elt Ideal) X (ix3 i r k) = X (ix3 i r k) := by
  blk_ext! [at7 t]
theorem read8 (X : S1536x2048.Idx → Elt Ideal (.f32 : EltTy)) (t : Fin cfg0.N) (d : Fin 1536) (n : Fin 2048) :
    ((cfg0.win 8).blk t).view.read (Elt Ideal) X (ix2 d n) = X (ix2 d n) := by
  blk_ext! [at8 t]
theorem read9 (X : S1x1536.Idx → Elt Ideal (.f32 : EltTy)) (t : Fin cfg0.N) (i : Fin 1) (d : Fin 1536) :
    ((cfg0.win 9).blk t).view.read (Elt Ideal) X (ix2 i d) = X (ix2 i d) := by
  blk_ext! [at9 t]

theorem cut7 (X : S4x512x1536.Idx → Elt Ideal (.bf16 : EltTy)) (t : Fin cfg0.N) (i : Fin 4) (r : Fin 512) (k : Fin 1536) :
    (cfg0.win 7).cut (grid0.coords t) X (ix3 i r k) = X (ix3 i r k) := rfl
theorem cut8 (X : S1536x2048.Idx → Elt Ideal (.f32 : EltTy)) (t : Fin cfg0.N) (d : Fin 1536) (n : Fin 2048) :
    (cfg0.win 8).cut (grid0.coords t) X (ix2 d n) = X (ix2 d n) := rfl
theorem cut9 (X : S1x1536.Idx → Elt Ideal (.f32 : EltTy)) (t : Fin cfg0.N) (i : Fin 1) (d : Fin 1536) :
    (cfg0.win 9).cut (grid0.coords t) X (ix2 i d) = X (ix2 i d) := rfl

/-! ## The results -/

/-- The arguments, by coordinates. -/
def arg : Arg := Arg.of (fun i r k => m (c, Proc.devRef .tc main_arg0) (ix3 i r k)) (fun i r k => m (c, Proc.devRef .tc main_arg1) (ix3 i r k))
  (fun i r => m (c, Proc.devRef .tc main_arg2) (ix2 i r)) (fun d => m (c, Proc.devRef .tc main_arg3) (ix1 d))
  (fun d n => m (c, Proc.devRef .tc main_arg4) (ix2 d n)) (fun n => m (c, Proc.devRef .tc main_arg5) (ix1 n))
  (fun i r k => m (c, Proc.devRef .tc main_arg6) (ix3 i r k))

theorem blks (t : Fin cfg0.N) : Blk (arg m c) (iblk m c 0 t) (iblk m c 1 t) (iblk m c 2 t) (iblk m c 3 t) (iblk m c 4 t) (iblk m c 5 t) (iblk m c 6 t) where
  x i r k := (blk0 m c t i r k).trans (by unfold arg; rw [Arg.of_x])
  xs i r k := (blk1 m c t i r k).trans (by unfold arg; rw [Arg.of_xs])
  r i r := (blk2 m c t i r).trans (by unfold arg; rw [Arg.of_r])
  g i d := (blk3 m c t i d).trans (by unfold arg; rw [Arg.of_g])
  w d n := (blk4 m c t d n).trans (by unfold arg; rw [Arg.of_w])
  ws i n := (blk5 m c t i n).trans (by unfold arg; rw [Arg.of_ws])
  dq i r k := (blk6 m c t i r k).trans (by unfold arg; rw [Arg.of_dq])

/-- The one grid point. -/
abbrev t0 : Fin cfg0.N := ⟨0, by decide⟩

theorem res7 (i : Fin 4) (r : Fin 512) (k : Fin 1536) :
    (dats m 0 c).arrAt 7 cfg0.N (ix3 i r k) = (arg m c).dx ((1 / 1536 : ℝ) : EReal) (i * 512 + r) k := by
  have hb := congrFun (Value.blocks7 m c t0 (by decide +kernel)) (ix3 i r k)
  rw [Value.flushed7, out7] at hb
  exact ((read7 _ t0 i r k).symm.trans hb).trans ((cut7 _ t0 i r k).trans (pay1_apply (blks m c t0) i r k))

theorem res8 (d : Fin 1536) (n : Fin 2048) :
    (dats m 0 c).arrAt 8 cfg0.N (ix2 d n) = (arg m c).dw d n := by
  have hb := congrFun (Value.blocks8 m c t0 (by decide +kernel)) (ix2 d n)
  rw [Value.flushed8, out8] at hb
  exact ((read8 _ t0 d n).symm.trans hb).trans ((cut8 _ t0 d n).trans (pay6_apply (blks m c t0) d n))

theorem res9 (i : Fin 1) (d : Fin 1536) :
    (dats m 0 c).arrAt 9 cfg0.N (ix2 i d) = (arg m c).dg 2048 d := by
  have hb := congrFun (Value.blocks9 m c t0 (by decide +kernel)) (ix2 i d)
  rw [Value.flushed9, out9] at hb
  exact ((read9 _ t0 i d).symm.trans hb).trans ((cut9 _ t0 i d).trans (pay8_apply (blks m c t0) i d))

end Cert.Proof.Ref

end
-- ==== Proof.Value.lean ====
/- The idealized kernel's three results, and that the reference leaves the same. -/
module

public import proofs.«01_k».proof.Defs
public import proofs.«01_k».proof.Proof.Results
public import proofs.«01_k».proof.Proof.RunIdeal
public import proofs.«01_k».proof.Proof.Reference

@[expose] public section

noncomputable section

namespace Cert.Proof.RunIdeal

open Cert.KernelIdeal Cert.KernelIdeal.Gen
open Cert.Proof.Body (refsH refsR St W W_mono W_body rd Ext Fin3)
open Idealize.ShloMosaic Idealize.ShloMosaic.TcCoe Idealize.SL.Sem

attribute [local irreducible] W

variable (m : (ℓ : Loc nD τ sig) → Buf (Elt Ideal) ℓ) (c : Dev nD)

/-- The arguments, by coordinates. -/
def arg : Arg := Arg.of (fun i r k => m (c, Proc.devRef .tc main_arg0) (ix3 i r k)) (fun i r k => m (c, Proc.devRef .tc main_arg1) (ix3 i r k))
  (fun i r => m (c, Proc.devRef .tc main_arg2) (ix2 i r)) (fun d => m (c, Proc.devRef .tc main_arg3) (ix1 d))
  (fun d n => m (c, Proc.devRef .tc main_arg4) (ix2 d n)) (fun n => m (c, Proc.devRef .tc main_arg5) (ix1 n))
  (fun i r k => m (c, Proc.devRef .tc main_arg6) (ix3 i r k))

theorem gamma_apply (i : Fin 1) (d : Fin 1536) : V m c main_v0 (ix2 i d) = m (c, Proc.devRef .tc main_arg3) (ix1 d) := by
  entry_read
  pointwise

theorem ws_apply (i : Fin 1) (n : Fin 2048) : V m c main_v1 (ix2 i n) = m (c, Proc.devRef .tc main_arg5) (ix1 n) := by
  entry_read
  pointwise

theorem ext {V' : St Ideal} (h : ∀ b ∈ refsH, V' b = V m c b) : Ext (arg m c) V' where
  x i r k := (congrFun ((h main_arg0 (by decide)).trans (V_main_arg0 m c)) (ix3 i r k)).trans (by unfold arg; rw [Arg.of_x])
  xs i r k := (congrFun ((h main_arg1 (by decide)).trans (V_main_arg1 m c)) (ix3 i r k)).trans (by unfold arg; rw [Arg.of_xs])
  r i r := (congrFun ((h main_arg2 (by decide)).trans (V_main_arg2 m c)) (ix2 i r)).trans (by unfold arg; rw [Arg.of_r])
  g i d := (congrFun (h main_v0 (by decide)) (ix2 i d)).trans ((gamma_apply m c i d).trans (by unfold arg; rw [Arg.of_g]))
  w d n := (congrFun ((h main_arg4 (by decide)).trans (V_main_arg4 m c)) (ix2 d n)).trans (by unfold arg; rw [Arg.of_w])
  ws i n := (congrFun (h main_v1 (by decide)) (ix2 i n)).trans ((ws_apply m c i n).trans (by unfold arg; rw [Arg.of_ws]))
  dq i r k := (congrFun ((h main_arg6 (by decide)).trans (V_main_arg6 m c)) (ix3 i r k)).trans (by unfold arg; rw [Arg.of_dq])

/-- The reciprocal of the number of features. -/
def inv : EReal := ((1 / 1536 : ℝ) : EReal)

/-- The input's gradient. -/
def dx : Vec Ideal S4x512x1536 .bf16 := fun y => (arg m c).dx inv ((y 0 : ℕ) * 512 + (y 1 : ℕ)) (y 2 : ℕ)
/-- The matrix's gradient. -/
def dw : Vec Ideal S1536x2048 .f32 := fun y => (arg m c).dw (y 0 : ℕ) (y 1 : ℕ)
/-- The normalization weights' gradient. -/
def dg : Vec Ideal S1x1536 .f32 := fun y => (arg m c).dg 2048 (y 1 : ℕ)

/-- What the results hold after the run. -/
def G (c : Dev nD) : (b : Ref sig .tc) → Buf (Elt Ideal) ((c.tc : Thread nD τ).loc b) :=
  Function.update (Function.update (Function.update (V m c) main_v2_0 (dx m c)) main_v2_1 (dw m c)) main_v2_2 (dg m c)

theorem G_dx : G m c main_v2_0 = dx m c := by
  unfold G
  rw [Function.update_of_ne (by decide), Function.update_of_ne (by decide), Function.update_self]
theorem G_dw : G m c main_v2_1 = dw m c := by
  unfold G
  rw [Function.update_of_ne (by decide), Function.update_self]
theorem G_dg : G m c main_v2_2 = dg m c := by
  unfold G
  rw [Function.update_self]

theorem at_refs {V' : St Ideal} (h : Fin3 (arg m c) inv V') : ∀ b ∈ refsR, V' b = G m c b := by
  intro b hb
  rcases (by simpa only [refsR, Finset.mem_insert, Finset.mem_singleton] using hb : b = main_v2_0 ∨ b = main_v2_1 ∨ b = main_v2_2) with rfl | rfl | rfl
  · rw [G_dx]
    funext y
    exact (congrArg (V' main_v2_0) (ix3_eta y).symm).trans (h.dx (y 0) (y 1) (y 2))
  · rw [G_dw]
    funext y
    exact (congrArg (V' main_v2_1) (ix2_eta y).symm).trans (h.dw (y 0) (y 1))
  · rw [G_dg]
    funext y
    exact (congrArg (V' main_v2_2) (ix2_eta y).symm).trans (h.dg (y 0) (y 1))

theorem value (ρ : Dev nD → PrngReg) : θ_run defs (onTc (τ := τ) (main (F := Ideal))) ⟨m, fun _ => 0, ρ⟩ (fun r => ∀ c : Dev nD,
      r.2.mem ((c.tc : Thread nD τ).loc main_v2_0) = dx m c
      ∧ r.2.mem ((c.tc : Thread nD τ).loc main_v2_1) = dw m c
      ∧ r.2.mem ((c.tc : Thread nD τ).loc main_v2_2) = dg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hi : Named.named (F := Ideal) κ "inv_d" (φ := .f32) 0x3A2AAAAB#32 = inv := IdealRules.named_const.ideal_named_scalar κ "inv_d" _ _ rfl
  refine (θ_run defs _ _).mono (fun r h c => ?_) (run_value m ρ (G m) fun p hp c V' hV => ?_)
  · exact ⟨(h.2 c main_v2_0 (by decide)).trans (G_dx m c), (h.2 c main_v2_1 (by decide)).trans (G_dw m c), (h.2 c main_v2_2 (by decide)).trans (G_dg m c),
     ((h.1 c).2 main_arg0 (rest (by decide) (by decide))).trans (V_main_arg0 m c),
     ((h.1 c).2 main_arg1 (rest (by decide) (by decide))).trans (V_main_arg1 m c),
     ((h.1 c).2 main_arg2 (rest (by decide) (by decide))).trans (V_main_arg2 m c),
     ((h.1 c).2 main_arg3 (rest (by decide) (by decide))).trans (V_main_arg3 m c),
     ((h.1 c).2 main_arg4 (rest (by decide) (by decide))).trans (V_main_arg4 m c),
     ((h.1 c).2 main_arg5 (rest (by decide) (by decide))).trans (V_main_arg5 m c),
     ((h.1 c).2 main_arg6 (rest (by decide) (by decide))).trans (V_main_arg6 m c)⟩
  · rw [hi] at hp
    subst hp
    exact W_mono _ (fun _ _ h => at_refs m c h) _ (W_body (ext m c hV))

end Cert.Proof.RunIdeal

end
-- ==== Proof.Algebra.lean ====
/- The idealized kernel and the idealized reference leave the same results. -/
module

public import proofs.«01_k».proof.Proof.Value

@[expose] public section

noncomputable section

namespace Cert.Proof

open Idealize.ShloMosaic Idealize.ShloMosaic.TcCoe Idealize.SL.Sem

/-- The same arguments have the same coordinates. -/
theorem arg_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3))
    (h4 : m' (c, Proc.devRef .tc Cert.ReferenceIdeal.main_arg4) = m (c, Proc.devRef .tc Cert.KernelIdeal.main_arg4))
    (h5 : m' (c, Proc.devRef .tc Cert.ReferenceIdeal.main_arg5) = m (c, Proc.devRef .tc Cert.KernelIdeal.main_arg5))
    (h6 : m' (c, Proc.devRef .tc Cert.ReferenceIdeal.main_arg6) = m (c, Proc.devRef .tc Cert.KernelIdeal.main_arg6)) :
    Ref.arg m' c = RunIdeal.arg m c := by
  unfold Ref.arg RunIdeal.arg
  rw [h0, h1, h2, h3, h4, h5, h6]

theorem algebraic : Cert.algebraic_KernelIdeal_ReferenceIdeal (hKernelIdeal := Cert.KernelIdeal.Gen.facts) (hReferenceIdeal := Cert.ReferenceIdeal.Gen.facts) := by
  intro m g m' g' _ hm
  refine ⟨RunIdeal.dx m, RunIdeal.dw m, RunIdeal.dg m, RunIdeal.value m g, ?_⟩
  refine (θ_run _ _ _).mono (fun r h c => ?_) (Cert.ReferenceIdeal.Gen.run_main (F := Ideal) m' g')
  obtain ⟨h0, h1, h2, h3, h4, h5, h6⟩ := hm c
  have ha := arg_eq m m' c h0 h1 h2 h3 h4 h5 h6
  refine ⟨(Cert.ReferenceIdeal.Value.post7 m' r h c).trans ?_, (Cert.ReferenceIdeal.Value.post8 m' r h c).trans ?_,
    (Cert.ReferenceIdeal.Value.post9 m' r h c).trans ?_,
    Cert.ReferenceIdeal.Value.kept_main_arg0 m' r h c, Cert.ReferenceIdeal.Value.kept_main_arg1 m' r h c,
    Cert.ReferenceIdeal.Value.kept_main_arg2 m' r h c, Cert.ReferenceIdeal.Value.kept_main_arg3 m' r h c,
    Cert.ReferenceIdeal.Value.kept_main_arg4 m' r h c, Cert.ReferenceIdeal.Value.kept_main_arg5 m' r h c,
    Cert.ReferenceIdeal.Value.kept_main_arg6 m' r h c⟩
  · funext y
    refine (congrArg ((Cert.ReferenceIdeal.Gen.dats m' 0 c).arrAt 7 Cert.ReferenceIdeal.cfg0.N) (ix3_eta y).symm).trans ((Ref.res7 m' c (y 0) (y 1) (y 2)).trans ?_)
    rw [ha]
    rfl
  · funext y
    refine (congrArg ((Cert.ReferenceIdeal.Gen.dats m' 0 c).arrAt 8 Cert.ReferenceIdeal.cfg0.N) (ix2_eta y).symm).trans ((Ref.res8 m' c (y 0) (y 1)).trans ?_)
    rw [ha]
    rfl
  · funext y
    refine (congrArg ((Cert.ReferenceIdeal.Gen.dats m' 0 c).arrAt 9 Cert.ReferenceIdeal.cfg0.N) (ix2_eta y).symm).trans ((Ref.res9 m' c (y 0) (y 1)).trans ?_)
    rw [ha]
    rfl

end Cert.Proof

end
-- ==== Proof.lean ====
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunIdeal
public import proofs.«01_k».proof.Proof.RunKernel
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => RunKernel.frame m g,
  fun m g _ => RunIdeal.frame m g,
  fun m g _ => Cert.ReferenceIdeal.Gen.frame m g,
  IdealRules.named_const.statement _ _ _ _ _ rfl,
  algebraic⟩

end Cert.Proof

end
